-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_operands_finite [hPre_operands_finite : Cert.Pre_operands_finite.Facts] (m : (ℓ : Loc Cert.KernelIdeal.nD Cert.KernelIdeal.τ Cert.KernelIdeal.sig) → Buf (Elt Ideal) ℓ) : Prop :=
  ∀ c : Dev Cert.KernelIdeal.nD,
    (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_operands_finite [hPre_operands_finite : Cert.Pre_operands_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_operands_finite [hKernelIdeal : Cert.KernelIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_operands_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_operands_finite [hReferenceIdeal : Cert.ReferenceIdeal.Facts] [hPre_operands_finite : Cert.Pre_operands_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_operands_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_operands_finite [hKernelIdeal : Cert.KernelIdeal.Facts] [hReferenceIdeal : Cert.ReferenceIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_operands_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_operands_finite : Cert.Pre_operands_finite.Facts),
    quiescent_Kernel (hKernel := hKernel)
    ∧ quiescent_KernelIdeal (hKernelIdeal := hKernelIdeal)
    ∧ quiescent_KernelIdeal_pre_operands_finite (hKernelIdeal := hKernelIdeal) (hPre_operands_finite := hPre_operands_finite)
    ∧ quiescent_ReferenceIdeal (hReferenceIdeal := hReferenceIdeal)
    ∧ quiescent_ReferenceIdeal_pre_operands_finite (hReferenceIdeal := hReferenceIdeal) (hPre_operands_finite := hPre_operands_finite)
    ∧ preserves_Kernel_KernelIdeal
    ∧ algebraic_KernelIdeal_ReferenceIdeal_pre_operands_finite (hKernelIdeal := hKernelIdeal) (hReferenceIdeal := hReferenceIdeal) (hPre_operands_finite := hPre_operands_finite)
-- ==== Pre_operands_finite.lean ====
abbrev S16384x50x5 : Shape := ⟨3, ![16384, 50, 5]⟩
abbrev S256x32 : Shape := ⟨2, ![256, 32]⟩
abbrev S64x32 : Shape := ⟨2, ![64, 32]⟩
abbrev S2x8 : Shape := ⟨2, ![2, 8]⟩
abbrev S32x1 : Shape := ⟨2, ![32, 1]⟩
abbrev S32 : Shape := ⟨1, ![32]⟩
abbrev S256x136 : Shape := ⟨2, ![256, 136]⟩
abbrev S256 : Shape := ⟨1, ![256]⟩
abbrev S16384x50x1 : Shape := ⟨3, ![16384, 50, 1]⟩
abbrev S16384x50 : Shape := ⟨2, ![16384, 50]⟩
abbrev S_ : Shape := ⟨0, ![]⟩
abbrev S1x8 : Shape := ⟨2, ![1, 8]⟩
abbrev S8 : Shape := ⟨1, ![8]⟩
abbrev S256x40 : Shape := ⟨2, ![256, 40]⟩

class Facts : Prop where
  slices_S16384x50x5_S16384x50x1_0_0_1 : S16384x50x5.Slices ![0, 0, 1] S16384x50x1
  shapeCasts_S16384x50x1_S16384x50 : S16384x50x1.ShapeCasts S16384x50
  bcast_S_S16384x50 : S_.BroadcastsInDim S16384x50 (![] : Fin 0 → Fin S16384x50.rank)
  reducesTo_S16384x50_S_d0_1 : S16384x50.ReducesTo [0, 1] S_
  h_S_ : 0 < S_.numel
  slices_S16384x50x5_S16384x50x1_0_0_3 : S16384x50x5.Slices ![0, 0, 3] S16384x50x1
  slices_S2x8_S1x8_0_0 : S2x8.Slices ![0, 0] S1x8
  shapeCasts_S1x8_S8 : S1x8.ShapeCasts S8
  bcast_S_S8 : S_.BroadcastsInDim S8 (![] : Fin 0 → Fin S8.rank)
  reducesTo_S8_S_d0 : S8.ReducesTo [0] S_
  slices_S256x136_S256x32_0_32 : S256x136.Slices ![0, 32] S256x32
  bcast_S_S256x32 : S_.BroadcastsInDim S256x32 (![] : Fin 0 → Fin S256x32.rank)
  reducesTo_S256x32_S_d0_1 : S256x32.ReducesTo [0, 1] S_
  slices_S256x136_S256x40_0_96 : S256x136.Slices ![0, 96] S256x40
  bcast_S_S256x40 : S_.BroadcastsInDim S256x40 (![] : Fin 0 → Fin S256x40.rank)
  reducesTo_S256x40_S_d0_1 : S256x40.ReducesTo [0, 1] S_

variable [Facts]

def fn_part1 {F : FTy → Type} [FloatOps F] (main_arg8 : FVec F S256x136 .f32) (main_v12 : IVec S_ 1) (main_v17 : IVec S8 1) (main_c_3 : IVec S_ 1) : IVec S_ 1 :=
  let main_v18 : IVec S_ 1 := (fun x v => Host.reduce IntOp.andi x v reducesTo_S8_S_d0 h_S_) main_v17 main_c_3
  let main_v19 : IVec S_ 1 := andi main_v12 main_v18
  let main_v20 : FVec F S256x32 .f32 := (extractStridedSlice S256x32 ![0, 32] · slices_S256x136_S256x32_0_32) main_arg8
  let main_v21 : FVec F S256x32 .f32 := Host.absf main_v20
  let main_cst_4 : FVec F S_ .f32 := constant S_ .f32 0x7F800000#32
  let main_v22 : FVec F S256x32 .f32 := broadcastInDim S256x32 ![] bcast_S_S256x32 main_cst_4
  let main_v23 : IVec S256x32 1 := cmpf .olt main_v21 main_v22
  let main_c_5 : IVec S_ 1 := constantI S_ 1 1#1
  let main_v24 : IVec S_ 1 := (fun x v => Host.reduce IntOp.andi x v reducesTo_S256x32_S_d0_1 h_S_) main_v23 main_c_5
  let main_v25 : IVec S_ 1 := andi main_v19 main_v24
  let main_v26 : FVec F S256x40 .f32 := (extractStridedSlice S256x40 ![0, 96] · slices_S256x136_S256x40_0_96) main_arg8
  let main_v27 : FVec F S256x40 .f32 := Host.absf main_v26
  let main_cst_6 : FVec F S_ .f32 := constant S_ .f32 0x7F800000#32
  let main_v28 : FVec F S256x40 .f32 := broadcastInDim S256x40 ![] bcast_S_S256x40 main_cst_6
  let main_v29 : IVec S256x40 1 := cmpf .olt main_v27 main_v28
  let main_c_7 : IVec S_ 1 := constantI S_ 1 1#1
  let main_v30 : IVec S_ 1 := (fun x v => Host.reduce IntOp.andi x v reducesTo_S256x40_S_d0_1 h_S_) main_v29 main_c_7
  let main_v31 : IVec S_ 1 := andi main_v25 main_v30
  main_v31

def fn {F : FTy → Type} [FloatOps F] (main_arg0 : FVec F S16384x50x5 .f32) (main_arg1 : FVec F S256x32 .f32) (main_arg2 : FVec F S64x32 .f32) (main_arg3 : FVec F S2x8 .f32) (main_arg4 : FVec F S32x1 .f32) (main_arg5 : FVec F S32 .f32) (main_arg6 : FVec F S32x1 .f32) (main_arg7 : FVec F S32 .f32) (main_arg8 : FVec F S256x136 .f32) (main_arg9 : FVec F S256 .f32) (main_arg10 : FVec F S256 .f32) (main_arg11 : FVec F S256 .f32) : IVec S_ 1 :=
  let main_v0 : FVec F S16384x50x1 .f32 := (extractStridedSlice S16384x50x1 ![0, 0, 1] · slices_S16384x50x5_S16384x50x1_0_0_1) main_arg0
  let main_v1 : FVec F S16384x50 .f32 := shapeCast S16384x50 main_v0 shapeCasts_S16384x50x1_S16384x50
  let main_v2 : FVec F S16384x50 .f32 := Host.absf main_v1
  let main_cst : FVec F S_ .f32 := constant S_ .f32 0x7F800000#32
  let main_v3 : FVec F S16384x50 .f32 := broadcastInDim S16384x50 ![] bcast_S_S16384x50 main_cst
  let main_v4 : IVec S16384x50 1 := cmpf .olt main_v2 main_v3
  let main_c : IVec S_ 1 := constantI S_ 1 1#1
  let main_v5 : IVec S_ 1 := (fun x v => Host.reduce IntOp.andi x v reducesTo_S16384x50_S_d0_1 h_S_) main_v4 main_c
  let main_v6 : FVec F S16384x50x1 .f32 := (extractStridedSlice S16384x50x1 ![0, 0, 3] · slices_S16384x50x5_S16384x50x1_0_0_3) main_arg0
  let main_v7 : FVec F S16384x50 .f32 := shapeCast S16384x50 main_v6 shapeCasts_S16384x50x1_S16384x50
  let main_v8 : FVec F S16384x50 .f32 := Host.absf main_v7
  let main_cst_0 : FVec F S_ .f32 := constant S_ .f32 0x7F800000#32
  let main_v9 : FVec F S16384x50 .f32 := broadcastInDim S16384x50 ![] bcast_S_S16384x50 main_cst_0
  let main_v10 : IVec S16384x50 1 := cmpf .olt main_v8 main_v9
  let main_c_1 : IVec S_ 1 := constantI S_ 1 1#1
  let main_v11 : IVec S_ 1 := (fun x v => Host.reduce IntOp.andi x v reducesTo_S16384x50_S_d0_1 h_S_) main_v10 main_c_1
  let main_v12 : IVec S_ 1 := andi main_v5 main_v11
  let main_v13 : FVec F S1x8 .f32 := (extractStridedSlice S1x8 ![0, 0] · slices_S2x8_S1x8_0_0) main_arg3
  let main_v14 : FVec F S8 .f32 := shapeCast S8 main_v13 shapeCasts_S1x8_S8
  let main_v15 : FVec F S8 .f32 := Host.absf main_v14
  let main_cst_2 : FVec F S_ .f32 := constant S_ .f32 0x7F800000#32
  let main_v16 : FVec F S8 .f32 := broadcastInDim S8 ![] bcast_S_S8 main_cst_2
  let main_v17 : IVec S8 1 := cmpf .olt main_v15 main_v16
  let main_c_3 : IVec S_ 1 := constantI S_ 1 1#1
  fn_part1 (F := F) main_arg8 main_v12 main_v17 main_c_3
-- ==== Kernel.lean ====
abbrev S16384x50x5 : Shape := ⟨3, ![16384, 50, 5]⟩
abbrev S256x32 : Shape := ⟨2, ![256, 32]⟩
abbrev S64x32 : Shape := ⟨2, ![64, 32]⟩
abbrev S2x8 : Shape := ⟨2, ![2, 8]⟩
abbrev S32x1 : Shape := ⟨2, ![32, 1]⟩
abbrev S32 : Shape := ⟨1, ![32]⟩
abbrev S256x136 : Shape := ⟨2, ![256, 136]⟩
abbrev S256 : Shape := ⟨1, ![256]⟩
abbrev S136x256 : Shape := ⟨2, ![136, 256]⟩
abbrev S1x32 : Shape := ⟨2, ![1, 32]⟩
abbrev S1x256 : Shape := ⟨2, ![1, 256]⟩
abbrev S384x256 : Shape := ⟨2, ![384, 256]⟩
abbrev S32x256 : Shape := ⟨2, ![32, 256]⟩
abbrev S256x256 : Shape := ⟨2, ![256, 256]⟩
abbrev S64x256 : Shape := ⟨2, ![64, 256]⟩
abbrev S8x256 : Shape := ⟨2, ![8, 256]⟩
abbrev S2x256 : Shape := ⟨2, ![2, 256]⟩
abbrev S60x256 : Shape := ⟨2, ![60, 256]⟩
abbrev S1x1x256 : Shape := ⟨3, ![1, 1, 256]⟩
abbrev S16384x50x256 : Shape := ⟨3, ![16384, 50, 256]⟩
abbrev S128x8x5 : Shape := ⟨3, ![128, 8, 5]⟩
abbrev S128x8x256 : Shape := ⟨3, ![128, 8, 256]⟩
abbrev S128x8x1 : Shape := ⟨3, ![128, 8, 1]⟩
abbrev S128x8x384 : Shape := ⟨3, ![128, 8, 384]⟩
abbrev S1024x384 : Shape := ⟨2, ![1024, 384]⟩
abbrev S1024x256 : Shape := ⟨2, ![1024, 256]⟩
abbrev S128x8 : Shape := ⟨2, ![128, 8]⟩

abbrev nBuf : Space → Nat
  | .hbm => 22
  | .vmem => 17
  | .smem => 0
  | _ => 0

abbrev bufTy : (tb : Table) → Fin (tcTables nBuf tb) → BufTy
  | .hbm, ⟨0, _⟩ => ⟨S16384x50x5, .f32⟩
  | .hbm, ⟨1, _⟩ => ⟨S256x32, .f32⟩
  | .hbm, ⟨2, _⟩ => ⟨S64x32, .f32⟩
  | .hbm, ⟨3, _⟩ => ⟨S2x8, .f32⟩
  | .hbm, ⟨4, _⟩ => ⟨S32x1, .f32⟩
  | .hbm, ⟨5, _⟩ => ⟨S32, .f32⟩
  | .hbm, ⟨6, _⟩ => ⟨S32x1, .f32⟩
  | .hbm, ⟨7, _⟩ => ⟨S32, .f32⟩
  | .hbm, ⟨8, _⟩ => ⟨S256x136, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S136x256, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S1x32, .f32⟩
  | .hbm, ⟨17, _⟩ => ⟨S1x256, .f32⟩
  | .hbm, ⟨18, _⟩ => ⟨S384x256, .f32⟩
  | .hbm, ⟨19, _⟩ => ⟨S1x1x256, .f32⟩
  | .hbm, ⟨20, _⟩ => ⟨S1x1x256, .f32⟩
  | .hbm, ⟨21, _⟩ => ⟨S16384x50x256, .f32⟩
  | .local _ .vmem, ⟨0, _⟩ => ⟨S256x32, .f32⟩
  | .local _ .vmem, ⟨1, _⟩ => ⟨S64x32, .f32⟩
  | .local _ .vmem, ⟨2, _⟩ => ⟨S2x8, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S136x256, .f32⟩
  | .local _ .vmem, ⟨8, _⟩ => ⟨S1x256, .f32⟩
  | .local _ .vmem, ⟨9, _⟩ => ⟨S384x256, .f32⟩
  | .local _ .vmem, ⟨10, _⟩ => ⟨S128x8x5, .f32⟩
  | .local _ .vmem, ⟨11, _⟩ => ⟨S128x8x5, .f32⟩
  | .local _ .vmem, ⟨12, _⟩ => ⟨S384x256, .f32⟩
  | .local _ .vmem, ⟨13, _⟩ => ⟨S1x1x256, .f32⟩
  | .local _ .vmem, ⟨14, _⟩ => ⟨S1x1x256, .f32⟩
  | .local _ .vmem, ⟨15, _⟩ => ⟨S128x8x256, .f32⟩
  | .local _ .vmem, ⟨16, _⟩ => ⟨S128x8x256, .f32⟩
  | _, _ => ⟨S16384x50x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := .none

abbrev stage0_0 : Fin 1 → Memref sig .tc .vmem S256x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S136x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S384x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![128, 7], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S128x8x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S384x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S128x8x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S16384x50x5 : Shape := ⟨3, ![16384, 50, 5]⟩
abbrev S256x32 : Shape := ⟨2, ![256, 32]⟩
abbrev S64x32 : Shape := ⟨2, ![64, 32]⟩
abbrev S2x8 : Shape := ⟨2, ![2, 8]⟩
abbrev S32x1 : Shape := ⟨2, ![32, 1]⟩
abbrev S32 : Shape := ⟨1, ![32]⟩
abbrev S256x136 : Shape := ⟨2, ![256, 136]⟩
abbrev S256 : Shape := ⟨1, ![256]⟩
abbrev S16384x50x1 : Shape := ⟨3, ![16384, 50, 1]⟩
abbrev S16384x50 : Shape := ⟨2, ![16384, 50]⟩
abbrev S_ : Shape := ⟨0, ![]⟩
abbrev S1 : Shape := ⟨1, ![1]⟩
abbrev S1x1x1 : Shape := ⟨3, ![1, 1, 1]⟩
abbrev S16384x50x32 : Shape := ⟨3, ![16384, 50, 32]⟩
abbrev S1x32 : Shape := ⟨2, ![1, 32]⟩
abbrev S1x1x32 : Shape := ⟨3, ![1, 1, 32]⟩
abbrev S16384x50x8 : Shape := ⟨3, ![16384, 50, 8]⟩
abbrev S16384x50x136 : Shape := ⟨3, ![16384, 50, 136]⟩
abbrev S136x256 : Shape := ⟨2, ![136, 256]⟩
abbrev S16384x50x256 : Shape := ⟨3, ![16384, 50, 256]⟩
abbrev S1x1x256 : Shape := ⟨3, ![1, 1, 256]⟩

abbrev nBuf : Space → Nat
  | .hbm => 176
  | .vmem => 0
  | .smem => 0
  | _ => 0

abbrev hbmTy0_0 (i : Nat) : BufTy := match i % 128 with
  | 0 => ⟨S16384x50x5, .f32⟩
  | 1 => ⟨S256x32, .f32⟩
  | 2 => ⟨S64x32, .f32⟩
  | 3 => ⟨S2x8, .f32⟩
  | 4 => ⟨S32x1, .f32⟩
  | 5 => ⟨S32, .f32⟩
  | 6 => ⟨S32x1, .f32⟩
  | 7 => ⟨S32, .f32⟩
  | 8 => ⟨S256x136, .f32⟩
  | 9 => ⟨S256, .f32⟩
  | 10 => ⟨S256, .f32⟩
  | 11 => ⟨S256, .f32⟩
  | 12 => ⟨S16384x50x1, .f32⟩
  | 13 => ⟨S16384x50, .f32⟩
  | 14 => ⟨S16384x50, .i32⟩
  | 15 => ⟨S_, .i32⟩
  | 16 => ⟨S_, .i32⟩
  | 17 => ⟨S_, .i32⟩
  | 18 => ⟨S16384x50, .i32⟩
  | 19 => ⟨S16384x50, .i32⟩
  | 20 => ⟨S_, .i32⟩
  | 21 => ⟨S16384x50, .i32⟩
  | 22 => ⟨S16384x50, .i32⟩
  | 23 => ⟨S16384x50x1, .f32⟩
  | 24 => ⟨S16384x50x1, .f32⟩
  | 25 => ⟨S16384x50, .f32⟩
  | 26 => ⟨S16384x50, .i32⟩
  | 27 => ⟨S_, .i32⟩
  | 28 => ⟨S_, .i32⟩
  | 29 => ⟨S_, .i32⟩
  | 30 => ⟨S16384x50, .i32⟩
  | 31 => ⟨S16384x50, .i32⟩
  | 32 => ⟨S_, .i32⟩
  | 33 => ⟨S16384x50, .i32⟩
  | 34 => ⟨S16384x50, .i32⟩
  | 35 => ⟨S16384x50x1, .f32⟩
  | 36 => ⟨S16384x50x1, .f32⟩
  | 37 => ⟨S16384x50, .f32⟩
  | 38 => ⟨S16384x50, .i32⟩
  | 39 => ⟨S_, .i32⟩
  | 40 => ⟨S_, .i32⟩
  | 41 => ⟨S_, .i32⟩
  | 42 => ⟨S16384x50, .i32⟩
  | 43 => ⟨S16384x50, .i32⟩
  | 44 => ⟨S_, .i32⟩
  | 45 => ⟨S16384x50, .i32⟩
  | 46 => ⟨S16384x50, .i32⟩
  | 47 => ⟨S_, .i32⟩
  | 48 => ⟨S16384x50, .i32⟩
  | 49 => ⟨S16384x50, .i1⟩
  | 50 => ⟨S_, .i32⟩
  | 51 => ⟨S16384x50, .i32⟩
  | 52 => ⟨S16384x50, .i32⟩
  | 53 => ⟨S16384x50, .i32⟩
  | 54 => ⟨S16384x50x1, .i32⟩
  | 55 => ⟨S1, .i32⟩
  | 56 => ⟨S_, .i32⟩
  | 57 => ⟨S16384x50x1, .i32⟩
  | 58 => ⟨S16384x50x1, .i1⟩
  | 59 => ⟨S1x1x1, .i32⟩
  | 60 => ⟨S16384x50x1, .i32⟩
  | 61 => ⟨S16384x50x1, .i1⟩
  | 62 => ⟨S16384x50x1, .i1⟩
  | 63 => ⟨S_, .i1⟩
  | 64 => ⟨S16384x50, .i1⟩
  | 65 => ⟨S16384x50x32, .f32⟩
  | 66 => ⟨S16384x50x32, .i1⟩
  | 67 => ⟨S_, .f32⟩
  | 68 => ⟨S16384x50x32, .f32⟩
  | 69 => ⟨S16384x50x32, .f32⟩
  | 70 => ⟨S1x32, .f32⟩
  | 71 => ⟨S16384x50x32, .f32⟩
  | 72 => ⟨S1x1x32, .f32⟩
  | 73 => ⟨S16384x50x32, .f32⟩
  | 74 => ⟨S16384x50x32, .f32⟩
  | 75 => ⟨S_, .i32⟩
  | 76 => ⟨S16384x50, .i32⟩
  | 77 => ⟨S16384x50, .i1⟩
  | 78 => ⟨S_, .i32⟩
  | 79 => ⟨S16384x50, .i32⟩
  | 80 => ⟨S16384x50, .i32⟩
  | 81 => ⟨S16384x50, .i32⟩
  | 82 => ⟨S16384x50x1, .i32⟩
  | 83 => ⟨S1, .i32⟩
  | 84 => ⟨S_, .i32⟩
  | 85 => ⟨S16384x50x1, .i32⟩
  | 86 => ⟨S16384x50x1, .i1⟩
  | 87 => ⟨S1x1x1, .i32⟩
  | 88 => ⟨S16384x50x1, .i32⟩
  | 89 => ⟨S16384x50x1, .i1⟩
  | 90 => ⟨S16384x50x1, .i1⟩
  | 91 => ⟨S_, .i1⟩
  | 92 => ⟨S16384x50, .i1⟩
  | 93 => ⟨S16384x50x32, .f32⟩
  | 94 => ⟨S16384x50x32, .i1⟩
  | 95 => ⟨S_, .f32⟩
  | 96 => ⟨S16384x50x32, .f32⟩
  | 97 => ⟨S16384x50x32, .f32⟩
  | 98 => ⟨S1x32, .f32⟩
  | 99 => ⟨S16384x50x32, .f32⟩
  | 100 => ⟨S1x1x32, .f32⟩
  | 101 => ⟨S16384x50x32, .f32⟩
  | 102 => ⟨S16384x50x32, .f32⟩
  | 103 => ⟨S_, .i32⟩
  | 104 => ⟨S16384x50, .i32⟩
  | 105 => ⟨S16384x50, .i1⟩
  | 106 => ⟨S_, .i32⟩
  | 107 => ⟨S16384x50, .i32⟩
  | 108 => ⟨S16384x50, .i32⟩
  | 109 => ⟨S16384x50, .i32⟩
  | 110 => ⟨S16384x50x1, .i32⟩
  | 111 => ⟨S1, .i32⟩
  | 112 => ⟨S_, .i32⟩
  | 113 => ⟨S16384x50x1, .i32⟩
  | 114 => ⟨S16384x50x1, .i1⟩
  | 115 => ⟨S1x1x1, .i32⟩
  | 116 => ⟨S16384x50x1, .i32⟩
  | 117 => ⟨S16384x50x1, .i1⟩
  | 118 => ⟨S16384x50x1, .i1⟩
  | 119 => ⟨S_, .i1⟩
  | 120 => ⟨S16384x50, .i1⟩
  | 121 => ⟨S16384x50x8, .f32⟩
  | 122 => ⟨S16384x50x8, .i1⟩
  | 123 => ⟨S_, .f32⟩
  | 124 => ⟨S16384x50x8, .f32⟩
  | 125 => ⟨S16384x50x8, .f32⟩
  | 126 => ⟨S16384x50x136, .f32⟩
  | 127 => ⟨S136x256, .f32⟩
  | _ => ⟨S16384x50x5, .f32⟩

abbrev hbmTy0_1 (i : Nat) : BufTy := match i % 128 with
  | 0 => ⟨S16384x50x256, .f32⟩
  | 1 => ⟨S1x1x256, .f32⟩
  | 2 => ⟨S16384x50x256, .f32⟩
  | 3 => ⟨S16384x50x256, .f32⟩
  | 4 => ⟨S_, .f32⟩
  | 5 => ⟨S16384x50, .f32⟩
  | 6 => ⟨S16384x50x1, .f32⟩
  | 7 => ⟨S_, .f32⟩
  | 8 => ⟨S16384x50x1, .f32⟩
  | 9 => ⟨S16384x50x1, .f32⟩
  | 10 => ⟨S_, .i32⟩
  | 11 => ⟨S_, .f32⟩
  | 12 => ⟨S16384x50, .f32⟩
  | 13 => ⟨S16384x50x1, .f32⟩
  | 14 => ⟨S_, .f32⟩
  | 15 => ⟨S16384x50x1, .f32⟩
  | 16 => ⟨S16384x50x1, .f32⟩
  | 17 => ⟨S16384x50x256, .f32⟩
  | 18 => ⟨S16384x50x256, .f32⟩
  | 19 => ⟨S16384x50x256, .f32⟩
  | 20 => ⟨S_, .f32⟩
  | 21 => ⟨S_, .f32⟩
  | 22 => ⟨S_, .f32⟩
  | 23 => ⟨S_, .f32⟩
  | 24 => ⟨S16384x50, .f32⟩
  | 25 => ⟨S16384x50x1, .f32⟩
  | 26 => ⟨S16384x50x1, .f32⟩
  | 27 => ⟨S16384x50x1, .f32⟩
  | 28 => ⟨S_, .f32⟩
  | 29 => ⟨S_, .i1⟩
  | 30 => ⟨S_, .f32⟩
  | 31 => ⟨S_, .f32⟩
  | 32 => ⟨S16384x50x1, .f32⟩
  | 33 => ⟨S16384x50x1, .f32⟩
  | 34 => ⟨S16384x50x256, .f32⟩
  | 35 => ⟨S16384x50x256, .f32⟩
  | 36 => ⟨S_, .f32⟩
  | 37 => ⟨S16384x50x1, .f32⟩
  | 38 => ⟨S16384x50x1, .f32⟩
  | 39 => ⟨S16384x50x1, .f32⟩
  | 40 => ⟨S16384x50x256, .f32⟩
  | 41 => ⟨S16384x50x256, .f32⟩
  | 42 => ⟨S1x1x256, .f32⟩
  | 43 => ⟨S16384x50x256, .f32⟩
  | 44 => ⟨S16384x50x256, .f32⟩
  | 45 => ⟨S1x1x256, .f32⟩
  | 46 => ⟨S16384x50x256, .f32⟩
  | 47 => ⟨S16384x50x256, .f32⟩
  | _ => ⟨S16384x50x5, .f32⟩

abbrev hbmTy (i : Nat) : BufTy := match i / 128 with
  | 0 => hbmTy0_0 i
  | 1 => hbmTy0_1 i
  | _ => ⟨S16384x50x5, .f32⟩

abbrev bufTy : (tb : Table) → Fin (tcTables nBuf tb) → BufTy
  | .hbm, ⟨i, _⟩ => hbmTy i
  | _, _ => ⟨S16384x50x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v13 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_v14 : Ref sig .tc := ⟨.hbm, 66, rfl⟩
abbrev main_call3_cst : Ref sig .tc := ⟨.hbm, 67, rfl⟩
abbrev main_call3_v15 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_call4_c : Ref sig .tc := ⟨.hbm, 75, rfl⟩
abbrev main_call4_v0 : Ref sig .tc := ⟨.hbm, 76, rfl⟩
abbrev main_call4_v1 : Ref sig .tc := ⟨.hbm, 77, rfl⟩
abbrev main_call4_c_0 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_call4_v5 : Ref sig .tc := ⟨.hbm, 82, rfl⟩
abbrev main_call4_c_1 : Ref sig .tc := ⟨.hbm, 83, rfl⟩
abbrev main_call4_c_2 : Ref sig .tc := ⟨.hbm, 84, rfl⟩
abbrev main_call4_v6 : Ref sig .tc := ⟨.hbm, 85, rfl⟩
abbrev main_call4_v7 : Ref sig .tc := ⟨.hbm, 86, rfl⟩
abbrev main_call4_v8 : Ref sig .tc := ⟨.hbm, 87, rfl⟩
abbrev main_call4_v9 : Ref sig .tc := ⟨.hbm, 88, rfl⟩
abbrev main_call4_v10 : Ref sig .tc := ⟨.hbm, 89, rfl⟩
abbrev main_call4_v11 : Ref sig .tc := ⟨.hbm, 90, rfl⟩
abbrev main_call4_c_3 : Ref sig .tc := ⟨.hbm, 91, rfl⟩
abbrev main_call4_v12 : Ref sig .tc := ⟨.hbm, 92, rfl⟩
abbrev main_call4_v13 : Ref sig .tc := ⟨.hbm, 93, rfl⟩
abbrev main_call4_v14 : Ref sig .tc := ⟨.hbm, 94, rfl⟩
abbrev main_call4_cst : Ref sig .tc := ⟨.hbm, 95, rfl⟩
abbrev main_call4_v15 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_call5_c : Ref sig .tc := ⟨.hbm, 103, rfl⟩
abbrev main_call5_v0 : Ref sig .tc := ⟨.hbm, 104, rfl⟩
abbrev main_call5_v1 : Ref sig .tc := ⟨.hbm, 105, rfl⟩
abbrev main_call5_c_0 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_c_1 : Ref sig .tc := ⟨.hbm, 111, rfl⟩
abbrev main_call5_c_2 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_c_3 : Ref sig .tc := ⟨.hbm, 119, rfl⟩
abbrev main_call5_v12 : Ref sig .tc := ⟨.hbm, 120, rfl⟩
abbrev main_call5_v13 : Ref sig .tc := ⟨.hbm, 121, rfl⟩
abbrev main_call5_v14 : Ref sig .tc := ⟨.hbm, 122, rfl⟩
abbrev main_call5_cst : Ref sig .tc := ⟨.hbm, 123, rfl⟩
abbrev main_call5_v15 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_cst : Ref sig .tc := ⟨.hbm, 132, rfl⟩
abbrev main_v33 : Ref sig .tc := ⟨.hbm, 133, rfl⟩
abbrev main_v34 : Ref sig .tc := ⟨.hbm, 134, rfl⟩
abbrev main_cst_5 : Ref sig .tc := ⟨.hbm, 135, rfl⟩
abbrev main_v35 : Ref sig .tc := ⟨.hbm, 136, rfl⟩
abbrev main_v36 : Ref sig .tc := ⟨.hbm, 137, rfl⟩
abbrev main_c_6 : Ref sig .tc := ⟨.hbm, 138, rfl⟩
abbrev main_call6_cst : Ref sig .tc := ⟨.hbm, 139, rfl⟩
abbrev main_call6_v0 : Ref sig .tc := ⟨.hbm, 140, rfl⟩
abbrev main_call6_v1 : Ref sig .tc := ⟨.hbm, 141, rfl⟩
abbrev main_call6_cst_0 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_call6_v5 : Ref sig .tc := ⟨.hbm, 146, rfl⟩
abbrev main_call6_v6 : Ref sig .tc := ⟨.hbm, 147, rfl⟩
abbrev main_call6_v7 : Ref sig .tc := ⟨.hbm, 148, rfl⟩
abbrev main_call6_cst_1 : Ref sig .tc := ⟨.hbm, 149, rfl⟩
abbrev main_call6_v8 : Ref sig .tc := ⟨.hbm, 150, rfl⟩
abbrev main_call6_cst_2 : Ref sig .tc := ⟨.hbm, 151, rfl⟩
abbrev main_call6_v9 : Ref sig .tc := ⟨.hbm, 152, rfl⟩
abbrev main_call6_v10 : Ref sig .tc := ⟨.hbm, 153, rfl⟩
abbrev main_call6_v11 : Ref sig .tc := ⟨.hbm, 154, rfl⟩
abbrev main_call6_v12 : Ref sig .tc := ⟨.hbm, 155, rfl⟩
abbrev main_call6_cst_3 : Ref sig .tc := ⟨.hbm, 156, rfl⟩
abbrev main_call6_v13 : Ref sig .tc := ⟨.hbm, 157, rfl⟩
abbrev main_call6_cst_4 : Ref sig .tc := ⟨.hbm, 158, rfl⟩
abbrev main_call6_call0_v0 : Ref sig .tc := ⟨.hbm, 159, rfl⟩
abbrev main_call6_call0_v1 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_cst_7 : Ref sig .tc := ⟨.hbm, 164, rfl⟩
abbrev main_v40 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_v44 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩

abbrev nD : Nat := 1
abbrev τ : Topo := Topo.v7x

variable {F : FTy → Type} [FloatOps F]
-- ==== Proof.Same.lean ====
module

public import proofs.«01_k».proof.Defs
public import proofs.«01_k».proof.Proof.Gen.Kernel
public import proofs.«01_k».proof.Proof.Gen.KernelIdeal

/-!
# The two printed kernels are one program

`Kernel` is the kernel read at float words and `KernelIdeal` the same text read at extended reals; as programs over an
arbitrary float type they are equal, so a run proved of one for every float type is a run of the other.
-/

@[expose] public section
set_option maxRecDepth 65536
open Idealize.ShloMosaic Idealize.SL.Sem

namespace Cert.Same

variable {F : FTy → Type} [FloatOps F]

/-- The first kernel's body is the same in both. -/
theorem body0 : (Cert.Kernel.cc0__tables_body (F := F)) = Cert.KernelIdeal.cc0__tables_body (F := F) := rfl

/-- The second kernel's body is the same in both. -/
theorem body1 : (Cert.Kernel.cc1__fwd_body (F := F)) = Cert.KernelIdeal.cc1__fwd_body (F := F) := rfl

/-- The launches' layouts are the same in both. -/
theorem pcfgs_same : (Cert.Kernel.pcfgs (F := F)) = Cert.KernelIdeal.pcfgs (F := F) := rfl

/-- The labels' bodies are the same in both. -/
theorem defs₀_same : (Cert.Kernel.defs₀ (F := F)) = Cert.KernelIdeal.defs₀ (F := F) := by
  unfold Cert.Kernel.defs₀ Cert.KernelIdeal.defs₀
  refine congrArg Defs.onTc (funext fun l => ?_)
  match l with
  | 0 => rfl
  | 1 => rfl

/-- The launches' definitions are the same in both. -/
theorem defs_same : (Cert.Kernel.defs (F := F)) = Cert.KernelIdeal.defs (F := F) :=
  congrArg (Pipeline.defs (Cert.Kernel.pcfgs (F := F))) defs₀_same

/-- @main is the same in both. -/
theorem main_same : (Cert.Kernel.main (F := F)) = Cert.KernelIdeal.main (F := F) := rfl

end Cert.Same
-- ==== Proof.Body.lean ====
module

public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelIdeal.Skeleton
public import Idealize.ShloMosaic.Lib.Pipeline.FrameBody
public import Idealize.ShloMosaic.Lib.Pipeline.KitQuiescent
public import Idealize.ShloMosaic.Lib.Pipeline.Value
public import Idealize.ShloMosaic.Lib.Tactic

@[expose] public section

noncomputable section

namespace Cert.KernelIdeal.Work

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Offsets zero, on two and on three axes. -/
theorem off2 : (![0, 0] : Fin 2 → Nat) = fun _ => 0 := funext fun a => by fin_cases a <;> rfl
/-- The zero offset into a rank-three buffer, as a constant function. -/
theorem off3 : (![0, 0, 0] : Fin 3 → Nat) = fun _ => 0 := funext fun a => by fin_cases a <;> rfl

/-- A load of a memref's whole shape reads what the memref holds. -/
theorem readAt_of {s : Shape} {e : EltTy} (a : Memref sig .tc .vmem s e) {off : Fin s.rank → Nat} (h : off = fun _ => 0)
    (inb : ∀ d, off d + s.size d ≤ s.size d) {f : a.view.ty.Contents (Elt F)} {X : s.Idx → Elt F e}
    (hf : a.view.read (Elt F) f = X) : a.view.readAt (Elt F) (Rect.unit off s.size inb).toLoadRect f = X := by
  rw [View.readAt_eq_ld, hf]; exact View.ld_unit_zero h inb X

/-- The three pieces of the table, the last stored first: the rows from 320, the flags' 64 rows from 256, the
    protocols' 256 rows. -/
def pieces (ep : Vec F S256x32 .f32) (ef : Vec F S64x32 .f32) (ed : Vec F S2x8 .f32) (wl bl wi bi : Vec F S1x32 .f32)
    (wf : Vec F S136x256 .f32) (bf : Vec F S1x256 .f32) : List (View.Piece (Elt F) S384x256 .f32) :=
  [⟨Rect.unit (s := S384x256) ![320, 0] S64x256.size inb_S384x256_S64x256_320_0,
      k0_pay1 (k0_pay2 wf) (k0_pay5 wf wl) (k0_pay6 wf wi) (k0_pay7 wf ed) (k0_pay8 wf bf bl) (k0_pay9 bi)⟩,
   ⟨Rect.unit (s := S384x256) ![256, 0] S64x256.size inb_S384x256_S64x256_256_0, k0_pay4 wf ef⟩,
   ⟨Rect.unit (s := S384x256) ![0, 0] S256x256.size inb_S384x256_S256x256_0_0, k0_pay3 wf ep⟩]

/-- The table the first kernel leaves, from what its nine operands hold. -/
def tab (ep : Vec F S256x32 .f32) (ef : Vec F S64x32 .f32) (ed : Vec F S2x8 .f32) (wl bl wi bi : Vec F S1x32 .f32)
    (wf : Vec F S136x256 .f32) (bf : Vec F S1x256 .f32) : S384x256.Idx → Elt F .f32 :=
  View.canon (pieces ep ef ed wl bl wi bi wf bf)

/-- The three pieces hold every row of the table. -/
theorem pieces_cover (ep : Vec F S256x32 .f32) (ef : Vec F S64x32 .f32) (ed : Vec F S2x8 .f32) (wl bl wi bi : Vec F S1x32 .f32)
    (wf : Vec F S136x256 .f32) (bf : Vec F S1x256 .f32) (y : S384x256.Idx) :
    ∃ p ∈ pieces ep ef ed wl bl wi bi wf bf, y ∈ p.1.set := by
  have h0 : (y 0 : Nat) < 384 := (y 0).isLt
  have h1 : (y 1 : Nat) < 256 := (y 1).isLt
  unfold pieces
  rcases Nat.lt_or_ge (y 0 : Nat) 256 with h | h
  · refine ⟨_, List.mem_cons_of_mem _ (List.mem_cons_of_mem _ (List.mem_cons_self ..)), ?_⟩
    rw [Rect.mem_set_unit]
    intro a; match a with
    | 0 => exact ⟨Nat.zero_le _, by simpa using h⟩
    | 1 => exact ⟨Nat.zero_le _, by simpa using h1⟩
  rcases Nat.lt_or_ge (y 0 : Nat) 320 with h' | h'
  · refine ⟨_, List.mem_cons_of_mem _ (List.mem_cons_self ..), ?_⟩
    rw [Rect.mem_set_unit]
    intro a; match a with
    | 0 => exact ⟨h, by simpa using h'⟩
    | 1 => exact ⟨Nat.zero_le _, by simpa using h1⟩
  · refine ⟨_, List.mem_cons_self .., ?_⟩
    rw [Rect.mem_set_unit]
    intro a; match a with
    | 0 => exact ⟨h', by simpa using h0⟩
    | 1 => exact ⟨Nat.zero_le _, by simpa using h1⟩

/-- What the second kernel stores of one block `xb` of the input: from the table `T` and the layer norm's weight and
    bias. -/
def pay (xb : Vec F S128x8x5 .f32) (T : Vec F S384x256 .f32) (g b : Vec F S1x1x256 .f32) : S128x8x256.Idx → Elt F .f32 :=
  k1_pay1 xb (k1_pay2 xb) (k1_pay3 T) (k1_pay4 xb T) g b

/-- The second kernel's body, at whichever of the staging buffers the point uses: the input block, the table, the
    weight and the bias are read whole, and the output's buffer ends at `pay` of them. -/
theorem sound_fwd (c : Dev nD) (i : grid1.Coords) (a0 : Memref sig .tc .vmem S128x8x5 .f32) (h0 : a0.IsWhole) (a1 : Memref sig .tc .vmem S384x256 .f32) (h1 : a1.IsWhole) (a2 : Memref sig .tc .vmem S1x1x256 .f32) (h2 : a2.IsWhole) (a3 : Memref sig .tc .vmem S1x1x256 .f32) (h3 : a3.IsWhole) (a4 : Memref sig .tc .vmem S128x8x256 .f32) (h4 : a4.IsWhole)
    (X0 : S128x8x5.Idx → Elt F .f32) (X1 : S384x256.Idx → Elt F .f32) (X2 X3 : S1x1x256.Idx → Elt F .f32)
    (X4 : S128x8x256.Idx → Elt F .f32) (K : PUnit → sProp 𝕄) :
    iprop((owns (c : Thread nD τ) a0 fullShare X0 ∗ owns (c : Thread nD τ) a1 fullShare X1 ∗ owns (c : Thread nD τ) a2 fullShare X2 ∗ owns (c : Thread nD τ) a3 fullShare X3 ∗ owns (c : Thread nD τ) a4 fullShare X4)
          ∗ (iprop(owns (c : Thread nD τ) a0 fullShare X0 ∗ owns (c : Thread nD τ) a1 fullShare X1 ∗ owns (c : Thread nD τ) a2 fullShare X2 ∗ owns (c : Thread nD τ) a3 fullShare X3 ∗ owns (c : Thread nD τ) a4 fullShare (pay X0 X1 X2 X3)) -∗ K ⟨⟩))
      ⊢ wp frame (wpE (defs₀ (F := F)) Variants.none c none) Set.univ
          (cc1__fwd_body i a0 h0 a1 h1 a2 h2 a3 h3 a4 h4) K := by
  simp only [cc1__fwd_body_eq_skeleton]; unfold cc1__fwd_body_skel
  simp only [k1_part1_eq_skeleton]; unfold k1_part1_skel
  simp only [Prog.lift, Prog.bind_op, Prog.bind_ret, Prog.pure_eq_ret, Prog.bind_assoc]
  unfold owns
  iintro ⟨⟨⟨%f0, %hf0, H0⟩, ⟨%f1, %hf1, H1⟩, ⟨%f2, %hf2, H2⟩, ⟨%f3, %hf3, H3⟩, ⟨%f4, %hf4, H4⟩⟩, Hk⟩
  sl_exec
  sl_step
  iapply Hk
  rw [readAt_of a0 off3 _ hf0]
  rw [readAt_of a1 off2 _ hf1]
  rw [readAt_of a2 off3 _ hf2]
  rw [readAt_of a3 off3 _ hf3]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  · iexists _; isplitr
    swap; · iexact H4
    ipureintro
    exact (View.read_writes_eq_canon _ _ _ (fun y => ⟨_, List.mem_singleton_self _, by rw [Rect.mem_set_unit]; exact fun d => ⟨by rw [off3]; exact Nat.zero_le _, by rw [off3]; simpa using (y d).isLt⟩⟩)).trans (View.canon_unit_zero off3 _ _)

/-- The first kernel's body keeps its nine operands and leaves the table `tab` of them in its result's buffer. -/
theorem sound_tables (c : Dev nD) (a0 : Memref sig .tc .vmem S256x32 .f32) (h0 : a0.IsWhole) (a1 : Memref sig .tc .vmem S64x32 .f32) (h1 : a1.IsWhole) (a2 : Memref sig .tc .vmem S2x8 .f32) (h2 : a2.IsWhole) (a3 : Memref sig .tc .vmem S1x32 .f32) (h3 : a3.IsWhole) (a4 : Memref sig .tc .vmem S1x32 .f32) (h4 : a4.IsWhole) (a5 : Memref sig .tc .vmem S1x32 .f32) (h5 : a5.IsWhole) (a6 : Memref sig .tc .vmem S1x32 .f32) (h6 : a6.IsWhole) (a7 : Memref sig .tc .vmem S136x256 .f32) (h7 : a7.IsWhole) (a8 : Memref sig .tc .vmem S1x256 .f32) (h8 : a8.IsWhole) (a9 : Memref sig .tc .vmem S384x256 .f32) (h9 : a9.IsWhole)
    (X0 : S256x32.Idx → Elt F .f32) (X1 : S64x32.Idx → Elt F .f32) (X2 : S2x8.Idx → Elt F .f32)
    (X3 X4 X5 X6 : S1x32.Idx → Elt F .f32) (X7 : S136x256.Idx → Elt F .f32) (X8 : S1x256.Idx → Elt F .f32)
    (X9 : S384x256.Idx → Elt F .f32) (K : PUnit → sProp 𝕄) :
    iprop((owns (c : Thread nD τ) a0 fullShare X0 ∗ owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9)
          ∗ (iprop(owns (c : Thread nD τ) a0 fullShare X0 ∗ owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare (tab X0 X1 X2 X3 X4 X5 X6 X7 X8)) -∗ K ⟨⟩))
      ⊢ wp frame (wpE (defs₀ (F := F)) Variants.none c none) Set.univ
          (cc0__tables_body a0 h0 a1 h1 a2 h2 a3 h3 a4 h4 a5 h5 a6 h6 a7 h7 a8 h8 a9 h9) K := by
  simp only [cc0__tables_body_eq_skeleton]; unfold cc0__tables_body_skel
  simp only [k0_part1_eq_skeleton]; unfold k0_part1_skel
  simp only [Prog.lift, Prog.bind_op, Prog.bind_ret, Prog.pure_eq_ret, Prog.bind_assoc]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
  sl_exec
  sl_step
  iapply Hk
  rw [readAt_of a0 off2 _ hf0]
  rw [readAt_of a1 off2 _ hf1]
  rw [readAt_of a2 off2 _ hf2]
  rw [readAt_of a3 off2 _ hf3]
  rw [readAt_of a4 off2 _ hf4]
  rw [readAt_of a5 off2 _ hf5]
  rw [readAt_of a6 off2 _ hf6]
  rw [readAt_of a7 off2 _ hf7]
  rw [readAt_of a8 off2 _ hf8]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  · iexists _; isplitr
    swap; · iexact H9
    ipureintro
    exact View.read_writes_eq_canon _ _ _ (pieces_cover X0 X1 X2 X3 X4 X5 X6 X7 X8)

end Cert.KernelIdeal.Work
-- ==== Proof.Data.lean ====
module

public import proofs.«01_k».proof.Proof.Body
public import Idealize.ShloMosaic.Lib.Pipeline.DatRel
public import Idealize.ShloMosaic.Lib.Pipeline.ArrRel
public import Idealize.ShloMosaic.Lib.Pipeline.Regions

@[expose] public section

noncomputable section

namespace Cert.KernelIdeal.Work

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose BodyObligationRel)

variable {F : FTy → Type} [FloatOps F]

local notation "𝕄" => MT nD τ sig Unit (Elt F) ℕ (UR sig nD τ) ℕ

variable (m : (ℓ : Loc nD τ sig) → Buf (Elt F) ℓ)

/-- The arrays as the first kernel finds them. -/
@[irreducible] def W1 (c : Dev nD) : Valuation τ sig (Elt F) := V1 m c

/-- `W1` unfolded. -/
theorem W1_eq (c : Dev nD) : W1 m c = V1 m c := by unfold W1; rfl

/-- The table the first kernel leaves, from the launch memory: the operands are four arguments and the host's
    re-laid weights. -/
def table (c : Dev nD) : S384x256.Idx → Elt F .f32 :=
  tab (W1 m c main_arg1) (W1 m c main_arg2) (W1 m c main_arg3) (W1 m c main_v1) (W1 m c main_v2) (W1 m c main_v3)
    (W1 m c main_v4) (W1 m c main_v0) (W1 m c main_v5)

/-- What the first kernel leaves in its result's array, the table (the other entries are never read). -/
def outs : Outs (F := F) := fun _ r c =>
  Function.update (β := fun b : Ref sig .tc => Buf (Elt F) ((c : Thread nD τ).loc b))
    (fun b => m ((c : Thread nD τ).loc b)) main_v6 (table m c) r

/-- The first kernel's result array is recorded as the table. -/
theorem outs_table (n : ℕ) (c : Dev nD) : outs m n main_v6 c = table m c := by
  unfold outs; exact Function.update_self ..

/-- The arrays as the second kernel finds them. -/
@[irreducible] def W3 (c : Dev nD) : Valuation τ sig (Elt F) := V3 m (outs m) c

/-- `W3` unfolded. -/
theorem W3_eq (c : Dev nD) : W3 m c = V3 m (outs m) c := by unfold W3; rfl

/-- The first kernel's proof data: its operands stay, the table is left in its result's buffer. -/
def dat0 (c : Dev nD) : Dat τ (Elt F) Unit ℕ (UR sig nD τ) ℕ cfg0 c where
  A w := W1 m c (Pipeline.arrRef spec0 w)
  after w _ := match w with
    | ⟨0, _⟩ => (W1 m c main_arg1 : S256x32.Idx → Elt F .f32)
    | ⟨1, _⟩ => (W1 m c main_arg2 : S64x32.Idx → Elt F .f32)
    | ⟨2, _⟩ => (W1 m c main_arg3 : S2x8.Idx → Elt F .f32)
    | ⟨3, _⟩ => (W1 m c main_v1 : S1x32.Idx → Elt F .f32)
    | ⟨4, _⟩ => (W1 m c main_v2 : S1x32.Idx → Elt F .f32)
    | ⟨5, _⟩ => (W1 m c main_v3 : S1x32.Idx → Elt F .f32)
    | ⟨6, _⟩ => (W1 m c main_v4 : S1x32.Idx → Elt F .f32)
    | ⟨7, _⟩ => (W1 m c main_v0 : S136x256.Idx → Elt F .f32)
    | ⟨8, _⟩ => (W1 m c main_v5 : S1x256.Idx → Elt F .f32)
    | ⟨9, _⟩ => table m c
  Φ _ := Pipeline.scopedRest (Ix := Unit) (Name := ℕ) (U := UR sig nD τ) (Lvl := ℕ) (Val := Elt F) spec0 c
  q _ := fullShare
  owed _ := 0

/-- The input block the second kernel's fetch at point `t` reads, the part of it inside the array. -/
def xblk (c : Dev nD) (t : Fin cfg1.N) : (win1_0.xblock (grid1.coords t)).Idx → Elt F .f32 :=
  (win1_0.blk t).view.read (Elt F) (W3 m c main_arg0)

/-- The table as the second kernel finds it. -/
def tabIn (c : Dev nD) : S384x256.Idx → Elt F .f32 := W3 m c main_v6
/-- The weight as the second kernel finds it. -/
def gamIn (c : Dev nD) : S1x1x256.Idx → Elt F .f32 := W3 m c main_v7
/-- The bias as the second kernel finds it. -/
def betIn (c : Dev nD) : S1x1x256.Idx → Elt F .f32 := W3 m c main_v8

/-- The second kernel's proof data: the input's buffer holds its block, the table, weight and bias stay; the output's
    buffer is held to a predicate (`Rel`). -/
def dat1 (c : Dev nD) : Dat τ (Elt F) Unit ℕ (UR sig nD τ) ℕ cfg1 c where
  A w := W3 m c (Pipeline.arrRef spec1 w)
  after w t := match w with
    | ⟨0, _⟩ => win1_0.fill (grid1.coords t) (fun _ => Scalar.ofBits .f32 0#32) (xblk m c t)
    | ⟨1, _⟩ => tabIn m c
    | ⟨2, _⟩ => gamIn m c
    | ⟨3, _⟩ => betIn m c
    | ⟨4, _⟩ => fun _ => Scalar.ofBits .f32 0#32
  Φ _ := Pipeline.scopedRest (Ix := Unit) (Name := ℕ) (U := UR sig nD τ) (Lvl := ℕ) (Val := Elt F) spec1 c
  q _ := fullShare
  owed _ := 0

/-- The one window whose contents are held to a predicate: the output's. -/
def marked : Fin cfg1.W → Bool
  | ⟨0, _⟩ => false
  | ⟨1, _⟩ => false
  | ⟨2, _⟩ => false
  | ⟨3, _⟩ => false
  | ⟨4, _⟩ => true

/-- What the body leaves in the output's buffer at point `t`: `pay` of the input block filled out in some way past the
    array's end. -/
def Rel (c : Dev nD) : (w : Fin cfg1.W) → Fin cfg1.N → ((cfg1.win w).block.Idx → Elt F (cfg1.win w).elt) → Prop
  | ⟨0, _⟩, _, _ => True
  | ⟨1, _⟩, _, _ => True
  | ⟨2, _⟩, _, _ => True
  | ⟨3, _⟩, _, _ => True
  | ⟨4, _⟩, t, X => ∃ d : S128x8x5.Idx → Elt F .f32, X = pay (win1_0.fill (grid1.coords t) d (xblk m c t))
      (tabIn m c) (gamIn m c) (betIn m c)

/-! ## What the bodies find -/

/-- The first kernel has one grid point. -/
theorem t_eq (t : Fin cfg0.N) : t = t0_0 := fin_N0 t

/-- The first kernel fetches each operand at that point. -/
theorem fetchAll0 (w : Fin 10) (h : w ≠ 9) (t : Fin cfg0.N) : (cfg0.win w).fetch t = true := by
  rw [t_eq t]; revert w; decide

/-- So its body finds what the fetch left. -/
theorem found0 (w : Fin 10) (h : w ≠ 9) (c : Dev nD) (t : Fin cfg0.N) (d) : (dat0 m c).before w t d = (dat0 m c).fetched w t d := by
  unfold Dat.before; rw [if_pos (fetchAll0 w h t)]

/-- A window never cut at the array's end, whose block is the leading part of `X`: a fetch leaves `X`. -/
theorem fetched_whole {cfg : Pipeline.Cfg sig Λ₀} {c : Dev nD} (dat : Dat τ (Elt F) Unit ℕ (UR sig nD τ) ℕ cfg c) (w : Fin cfg.W)
    (t : Fin cfg.N) (d X) (hclip : ∀ i a, (cfg.win w).clip i a = none)
    (h : ∀ j, dat.blockOf w t j = X ((cfg.win w).xinj (cfg.grid.coords t) j)) : dat.fetched w t d = X := by
  unfold Dat.fetched
  rw [show dat.blockOf w t = (cfg.win w).cut (cfg.grid.coords t) X from funext h,
    Pipeline.fill_of_clip_none w _ (fun a => hclip _ a) d X, Pipeline.Window.fill_cut]

/-- A unit-stride rectangle at offset zero of a whole buffer reads the buffer at the index itself. -/
theorem read_unit (b : Ref sig .tc) (off size : Fin b.ty.shape.rank → ℕ) (inb) (h0 : ∀ a, off a = 0) (X : b.ty.Contents (Elt F))
    (j : (Rect.unit off size inb).shape.Idx) (j' : b.ty.shape.Idx) (hj : ∀ a, (j' a).val = (j a).val) :
    ((View.whole b).slice (Rect.unit off size inb)).read (Elt F) X j = X j' := by
  refine congrArg X (funext fun a => Fin.ext ?_)
  rw [hj, ← Nat.zero_add (j a).val, ← h0 a]
  exact ValueKit.view_emb_slice_whole_unit_val b off size inb j a

/-- The first kernel's body finds each operand's array whole in its buffer. -/
theorem before0 (c : Dev nD) (t : Fin cfg0.N) (w : Fin 10) (h : w ≠ 9) (d) : (dat0 m c).before w t d = (dat0 m c).after w t := by
  rw [found0 m w h]
  match w, h with
  | 0, _ => exact fetched_whole (dat0 m c) (0 : Fin 10) t d _ (fun _ _ => rfl) fun j => read_unit main_arg1 _ _ _ (fun a => Nat.zero_mul _) _ j _ fun _ => rfl
  | 1, _ => exact fetched_whole (dat0 m c) (1 : Fin 10) t d _ (fun _ _ => rfl) fun j => read_unit main_arg2 _ _ _ (fun a => Nat.zero_mul _) _ j _ fun _ => rfl
  | 2, _ => exact fetched_whole (dat0 m c) (2 : Fin 10) t d _ (fun _ _ => rfl) fun j => read_unit main_arg3 _ _ _ (fun a => Nat.zero_mul _) _ j _ fun _ => rfl
  | 3, _ => exact fetched_whole (dat0 m c) (3 : Fin 10) t d _ (fun _ _ => rfl) fun j => read_unit main_v1 _ _ _ (fun a => Nat.zero_mul _) _ j _ fun _ => rfl
  | 4, _ => exact fetched_whole (dat0 m c) (4 : Fin 10) t d _ (fun _ _ => rfl) fun j => read_unit main_v2 _ _ _ (fun a => Nat.zero_mul _) _ j _ fun _ => rfl
  | 5, _ => exact fetched_whole (dat0 m c) (5 : Fin 10) t d _ (fun _ _ => rfl) fun j => read_unit main_v3 _ _ _ (fun a => Nat.zero_mul _) _ j _ fun _ => rfl
  | 6, _ => exact fetched_whole (dat0 m c) (6 : Fin 10) t d _ (fun _ _ => rfl) fun j => read_unit main_v4 _ _ _ (fun a => Nat.zero_mul _) _ j _ fun _ => rfl
  | 7, _ => exact fetched_whole (dat0 m c) (7 : Fin 10) t d _ (fun _ _ => rfl) fun j => read_unit main_v0 _ _ _ (fun a => Nat.zero_mul _) _ j _ fun _ => rfl
  | 8, _ => exact fetched_whole (dat0 m c) (8 : Fin 10) t d _ (fun _ _ => rfl) fun j => read_unit main_v5 _ _ _ (fun a => Nat.zero_mul _) _ j _ fun _ => rfl
  | ⟨9, _⟩, h => exact absurd rfl h
  | ⟨_ + 10, hn⟩, _ => exact absurd hn (by omega)

/-- The table's block is the first one at every grid point. -/
theorem tr1_1 (i : grid1.Coords) (a : Fin 2) : cc1_transform_1 i a = 0 := by
  fin_cases a <;> rfl

/-- The weight's block is the first one at every grid point. -/
theorem tr1_2 (i : grid1.Coords) (a : Fin 3) : cc1_transform_2 i a = 0 := by
  fin_cases a <;> rfl

/-- The bias's block is the first one at every grid point. -/
theorem tr1_3 (i : grid1.Coords) (a : Fin 3) : cc1_transform_3 i a = 0 := by
  fin_cases a <;> rfl

/-- The array of the table's window is the first kernel's result. -/
theorem arr1_1 (W : Valuation τ sig (Elt F)) : W (Pipeline.arrRef spec1 (1 : Fin 5)) = W main_v6 := by
  with_reducible rfl

/-- What the table's window is fetched from. -/
theorem A1_1 (c : Dev nD) : (dat1 m c).A (1 : Fin 5) = tabIn m c := by
  exact arr1_1 (W3 m c)

/-- The block of the table's window is its whole array. -/
theorem read1_1 (t : Fin cfg1.N) (X : S384x256.Idx → Elt F .f32) (j) :
    (win1_1.blk t).view.read (Elt F) X j = X (win1_1.xinj (grid1.coords t) j) :=
  read_unit main_v6 _ _ _ (fun a => by show cc1_transform_1 (grid1.coords t) a * _ = 0; rw [tr1_1, Nat.zero_mul]) _ j _ fun _ => rfl

/-- The block of the weight's window is the whole weight. -/
theorem block1_2 (c : Dev nD) (t : Fin cfg1.N) (j) : (dat1 m c).blockOf (2 : Fin 5) t j = gamIn m c (win1_2.xinj (grid1.coords t) j) :=
  read_unit main_v7 _ _ _ (fun a => by show cc1_transform_2 (grid1.coords t) a * _ = 0; rw [tr1_2, Nat.zero_mul]) _ j _ fun _ => rfl

/-- The block of the bias's window is the whole bias. -/
theorem block1_3 (c : Dev nD) (t : Fin cfg1.N) (j) : (dat1 m c).blockOf (3 : Fin 5) t j = betIn m c (win1_3.xinj (grid1.coords t) j) :=
  read_unit main_v8 _ _ _ (fun a => by show cc1_transform_3 (grid1.coords t) a * _ = 0; rw [tr1_3, Nat.zero_mul]) _ j _ fun _ => rfl

/-- An input window that keeps its block, the leading part of `X` at every point, holds `X` wherever the body finds it. -/
theorem before_whole {cfg : Pipeline.Cfg sig Λ₀} {c : Dev nD} (dat : Dat τ (Elt F) Unit ℕ (UR sig nD τ) ℕ cfg c) (w : Fin cfg.W)
    (hw : (cfg.win w).isOut = false) (hlive : ∀ i, cfg.idle w i = false) (hclip : ∀ i a, (cfg.win w).clip i a = none) (X)
    (hafter : ∀ t, dat.after w t = X) (h : ∀ t j, dat.blockOf w t j = X ((cfg.win w).xinj (cfg.grid.coords t) j)) (t d) :
    dat.before w t d = X :=
  (dat.before_in_eq_fetched w hw hlive (fun _ _ _ => funext fun a => (hclip _ a).trans (hclip _ a).symm)
    (fun t => by rw [hafter]; exact (funext (h t)).symm) t d).trans (fetched_whole dat w t d X hclip (h t))

/-- The second kernel's body finds the table in its buffer. -/
theorem before1_1 (c : Dev nD) (t : Fin cfg1.N) (d) : (dat1 m c).before (1 : Fin 5) t d = tabIn m c := by
  refine before_whole (dat1 m c) (1 : Fin 5) rfl (fun _ => rfl) (fun _ _ => rfl) (tabIn m c) (fun _ => rfl) (fun t j => ?_) t d
  exact (read1_1 t ((dat1 m c).A (1 : Fin 5)) j).trans (congrFun (A1_1 m c) _)

/-- The second kernel's body finds the weight in its buffer. -/
theorem before1_2 (c : Dev nD) (t : Fin cfg1.N) (d) : (dat1 m c).before (2 : Fin 5) t d = gamIn m c :=
  ((dat1 m c).before_in_eq_fetched (2 : Fin 5) rfl (fun _ => rfl) (fun _ _ _ => rfl) (fun t => (funext (block1_2 m c t)).symm) t d).trans
    (fetched_whole (dat1 m c) (2 : Fin 5) t d (gamIn m c) (fun _ _ => rfl) (block1_2 m c t))

/-- The second kernel's body finds the bias in its buffer. -/
theorem before1_3 (c : Dev nD) (t : Fin cfg1.N) (d) : (dat1 m c).before (3 : Fin 5) t d = betIn m c :=
  ((dat1 m c).before_in_eq_fetched (3 : Fin 5) rfl (fun _ => rfl) (fun _ _ _ => rfl) (fun t => (funext (block1_3 m c t)).symm) t d).trans
    (fetched_whole (dat1 m c) (3 : Fin 5) t d (betIn m c) (fun _ _ => rfl) (block1_3 m c t))

/-- The second kernel's body finds the point's block of the input, with anything past the array's end. -/
theorem before1_0 (c : Dev nD) (t : Fin cfg1.N) (d) : (dat1 m c).before (0 : Fin 5) t d = win1_0.fill (grid1.coords t) d (xblk m c t) := by
  unfold Dat.before; rw [if_pos (fetch1_0 t)]; rfl

end Cert.KernelIdeal.Work
-- ==== Proof.Obl.lean ====
module

public import proofs.«01_k».proof.Proof.Data
public import Idealize.ShloMosaic.Lib.Pipeline.DatRel
public import Idealize.ShloMosaic.Lib.Pipeline.ArrRel
public import Idealize.ShloMosaic.Lib.Pipeline.Regions

@[expose] public section

noncomputable section

namespace Cert.KernelIdeal.Work

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose BodyObligationRel)

set_option maxRecDepth 65536

variable {F : FTy → Type} [FloatOps F]

local notation "𝕄" => MT nD τ sig Unit (Elt F) ℕ (UR sig nD τ) ℕ

variable (m : (ℓ : Loc nD τ sig) → Buf (Elt F) ℓ)

/-- The first kernel's body meets its data: entered with every operand in its buffer, it leaves the table. -/
theorem hbody0 (c : Dev nD) : BodyObligationLoose (dat0 m c) (defs₀ (F := F)) Variants.none () Set.univ := fun t => by
  rw [bigSep_W0, bigSep_W0]
  simp only
  iintro ⟨HΦ, Ho, ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩⟩
  rw [before0 m c t (0 : Fin 10) (by decide) d0]
  rw [before0 m c t (1 : Fin 10) (by decide) d1]
  rw [before0 m c t (2 : Fin 10) (by decide) d2]
  rw [before0 m c t (3 : Fin 10) (by decide) d3]
  rw [before0 m c t (4 : Fin 10) (by decide) d4]
  rw [before0 m c t (5 : Fin 10) (by decide) d5]
  rw [before0 m c t (6 : Fin 10) (by decide) d6]
  rw [before0 m c t (7 : Fin 10) (by decide) d7]
  rw [before0 m c t (8 : Fin 10) (by decide) d8]
  iapply (sound_tables c (st0_0 t) _ (st0_1 t) _ (st0_2 t) _ (st0_3 t) _ (st0_4 t) _ (st0_5 t) _ (st0_6 t) _ (st0_7 t) _ (st0_8 t) _
    (st0_9 t) _ ((dat0 m c).after (0 : Fin 10) t) ((dat0 m c).after (1 : Fin 10) t) ((dat0 m c).after (2 : Fin 10) t)
    ((dat0 m c).after (3 : Fin 10) t) ((dat0 m c).after (4 : Fin 10) t) ((dat0 m c).after (5 : Fin 10) t)
    ((dat0 m c).after (6 : Fin 10) t) ((dat0 m c).after (7 : Fin 10) t) ((dat0 m c).after (8 : Fin 10) t) _ _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨K0, K1, K2, K3, K4, K5, K6, K7, K8, K9⟩
    isplitl [HΦ]; · rw [show (dat0 m c).Φ t.succ = (dat0 m c).Φ t.castSucc from rfl]; iexact HΦ
    isplitl [Ho]; · rw [show (dat0 m c).owesAt () t.succ = (dat0 m c).owesAt () t.castSucc from rfl]; iexact Ho
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    iexact K9

/-- The second kernel's body meets its data: entered with the input's block, the table, weight and bias, it leaves `pay` of
    them, the block filled out past the array's end in whatever way it was found. -/
theorem hbody1 (c : Dev nD) : BodyObligationRel (dat1 m c) (defs₀ (F := F)) Variants.none () Set.univ marked (Rel m c) := fun t => by
  rw [bigSep_W1, bigSep_W1]
  simp only [marked]
  iintro ⟨HΦ, Ho, ⟨⟨%d0, H0⟩, ⟨%d1, H1⟩, ⟨%d2, H2⟩, ⟨%d3, H3⟩, ⟨%Y4, -, H4⟩⟩⟩
  rw [before1_0 m c t d0, before1_1 m c t d1, before1_2 m c t d2, before1_3 m c t d3]
  iapply (sound_fwd c (grid1.coords t) (st1_0 t) _ (st1_1 t) _ (st1_2 t) _ (st1_3 t) _ (st1_4 t) _
    (win1_0.fill (grid1.coords t) d0 (xblk m c t)) (tabIn m c) (gamIn m c) (betIn m c) _ _)
  isplitl [H0 H1 H2 H3 H4]
  · isplitl [H0]; · iexact H0
    isplitl [H1]; · iexact H1
    isplitl [H2]; · iexact H2
    isplitl [H3]; · iexact H3
    iexact H4
  · iintro ⟨K0, K1, K2, K3, K4⟩
    isplitl [HΦ]; · rw [show (dat1 m c).Φ t.succ = (dat1 m c).Φ t.castSucc from rfl]; iexact HΦ
    isplitl [Ho]; · rw [show (dat1 m c).owesAt () t.succ = (dat1 m c).owesAt () t.castSucc from rfl]; iexact Ho
    isplitl [K0]
    · iexists d0
      rw [show win1_0.cut (grid1.coords t) ((dat1 m c).after (0 : Fin 5) t) = xblk m c t from win1_0.cut_fill _ _ _]
      iexact K0
    isplitl [K1]; · iexact K1
    isplitl [K2]; · iexact K2
    isplitl [K3]; · iexact K3
    iexists _
    isplitr
    · ipureintro; exact ⟨d0, rfl⟩
    iexact K4

end Cert.KernelIdeal.Work
-- ==== Proof.Run.lean ====
module

public import proofs.«01_k».proof.Proof.Obl
public import Idealize.ShloMosaic.Lib.Pipeline.RegionArrays
public import Idealize.ShloMosaic.Lib.Pipeline.DatRel
public import Idealize.ShloMosaic.Lib.Pipeline.ArrRel
public import Idealize.ShloMosaic.Lib.Pipeline.Regions

@[expose] public section

noncomputable section

namespace Cert.KernelIdeal.Work

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat arrRef BodyObligationLoose BodyObligationRel)

set_option maxRecDepth 65536

variable {F : FTy → Type} [FloatOps F]

local notation "𝕄" => MT nD τ sig Unit (Elt F) ℕ (UR sig nD τ) ℕ

variable (m : (ℓ : Loc nD τ sig) → Buf (Elt F) ℓ)

/-- The two kernels' proof data, read as relations: the first's exact, the second's with its output held to `Rel`. -/
def rdats : (p : Fin 2) → (c : Dev nD) → RDat τ (Elt F) Unit ℕ (UR sig nD τ) ℕ (Pipeline.pin (pcfgs (F := F)) adm p) c
  | ⟨0, _⟩, c => (dat0 m c).toR
  | ⟨1, _⟩, c => (dat1 m c).toRRel marked (Rel m c)

/-- No semaphore carries a level. -/
def lvSet : GSem nD τ sig → Finset Unit := fun _ => ∅
/-- The level map, never read. -/
def lvMap : GSem nD τ sig → Unit → ℕ := fun _ _ => 0

/-- What a core holds beside its buffers between two items: it owes nothing. -/
def rest : Fin 3 → Dev nD → sProp 𝕄 := fun _ c => iprop(∃ W, owes (c : Thread nD τ) (0 : CellTallies nD τ sig Unit) W)

/-- The arrays after the first kernel. -/
@[irreducible] def W2 (c : Dev nD) : Valuation τ sig (Elt F) := V2 m (outs m) c
/-- `W2` unfolded. -/
theorem W2_eq (c : Dev nD) : W2 m c = V2 m (outs m) c := by unfold W2; rfl

/-- The first kernel owns each of its arrays whole. -/
theorem share0 (c : Dev nD) (w : Fin 10) : (rdats m 0 c).share w = fullShare := by
  show (dat0 m c).share w = fullShare
  unfold Dat.share; split <;> rfl

/-- The second kernel owns each of its arrays whole. -/
theorem share1 (c : Dev nD) (w : Fin 5) : (rdats m 1 c).share w = fullShare := by
  show (dat1 m c).share w = fullShare
  unfold Dat.share; split <;> rfl

/-- The first kernel's result array at the end is the table. -/
theorem arrAt0_9 (c : Dev nD) : (dat0 m c).arrAt (9 : Fin 10) cfg0.N = table m c := by
  refine (dat0 m c).arrAt_eq_of_after_last (9 : Fin 10) t0_0 (by decide +kernel) (table m c) (fun j => ?_)
  rfl

/-- After the first kernel its result's array holds the table. -/
theorem W2_v6 (c : Dev nD) : W2 m c main_v6 = table m c := by
  rw [W2_eq, ← outs_table m 2 c]
  exact Function.update_self (Proc.devRef (τ := τ) .tc main_v6) (outs m 2 main_v6 c) (V1 m c)

/-- The first kernel changes no array but its result's. -/
theorem W2_of (c : Dev nD) (b : Ref sig .tc) (h : b ≠ main_v6) : W2 m c b = W1 m c b := by
  rw [W1_eq, W2_eq]
  exact V2_of m (outs m) c b (by simpa using h)

/-- After the first kernel each of its arrays is as `W2` has it: the operands unchanged, the result the table. -/
theorem arrAt0 (c : Dev nD) (w : Fin 10) : (dat0 m c).arrAt w cfg0.N = W2 m c (arrRef spec0 w) := by
  by_cases h : w = 9
  · subst h
    rw [arrAt0_9]
    exact (W2_v6 m c).symm
  · rw [(dat0 m c).arrAt_in w (by revert w; decide)]
    exact (W2_of m c (arrRef spec0 w) (by revert w; decide)).symm

/-- The buffers that are no array of the first kernel are untouched by it. -/
theorem rest0 (c : Dev nD) : (Pipeline.unscopedRest spec0 c (fun b => W1 m c b) : sProp 𝕄) = Pipeline.unscopedRest spec0 c (fun b => W2 m c b) := by
  unfold Pipeline.unscopedRest
  refine bigSep_congr fun b hb => ?_
  dsimp only
  rw [W2_of m c b]
  rintro rfl
  exact (Finset.mem_sdiff.mp hb).2 (Finset.mem_image.mpr ⟨9, Finset.mem_univ _, rfl⟩)

/-- Between two points the first kernel holds its scoped buffers and nothing else. -/
theorem phi0 (c : Dev nD) (t : Fin (cfg0.N + 1)) :
    (rdats m 0 c).Φ t = Pipeline.scopedRest (Ix := Unit) (Name := ℕ) (U := UR sig nD τ) (Lvl := ℕ) (Val := Elt F) spec0 c := by
  show (dat0 m c).Φ t = _
  unfold dat0
  with_reducible rfl

/-- And so does the second. -/
theorem phi1 (c : Dev nD) (t : Fin (cfg1.N + 1)) :
    (rdats m 1 c).Φ t = Pipeline.scopedRest (Ix := Unit) (Name := ℕ) (U := UR sig nD τ) (Lvl := ℕ) (Val := Elt F) spec1 c := by
  show (dat1 m c).Φ t = _
  unfold dat1
  with_reducible rfl

/-- The first kernel as a segment: entered with every buffer at `W1`, left with every buffer at `W2`. -/
def R0 : RDat.RegionSeg (pcfgs (F := F)) adm (rdats m) () defs₀ Variants.none lvSet lvMap 0 where
  win := launch0.win.to₀
  block_pos := launch0.block_pos
  stage_whole := launch0.stage_whole
  K := PEmpty
  osem k := k.elim
  ho := Pipeline.OwnSemFacts.none _
  hbody c := (hbody0 m c).toR
  hwaits := RDat.hwaits_of_owed_zero (pcfgs (F := F)) adm (rdats m) () lvSet lvMap 0 fun _ _ => rfl
  pre c := iprop(StableHlo.held (c : Thread nD τ) (Pipeline.ucRefs τ sig) (W1 m c) ∗ rest 0 c)
  post c := iprop(StableHlo.held (c : Thread nD τ) (Pipeline.ucRefs τ sig) (W2 m c) ∗ rest 1 c)
  X _ := iprop(emp)
  Y _ := iprop(emp)
  Z c := Pipeline.unscopedRest spec0 c fun b => W1 m c b
  hentry c := by
    rw [Pipeline.ownSems0_none, Pipeline.prefHeld_of_none _ rfl, ← Pipeline.unscopedBufs_held]
    have hsplit := RDat.arrays_of_unscopedBufs (pcfgs (F := F)) adm (rdats m) (p := 0) launch0.win launch0.arr_whole c (share0 m c)
      (fun b => W1 m c b) (fun w => rfl)
    iintro ⟨⟨Hh, HO⟩, -, -⟩
    ihave H := hsplit $$ Hh
    icases H with ⟨Ha, Hr⟩
    imodintro
    isplitl [Ha]; · iexact Ha
    isplitr; · iempintro
    isplitl [HO]
    · unfold rest; icases HO with ⟨%W, HO⟩; iexists W; isplitr; · ipureintro; exact fun _ _ => Or.inl trivial
      iexact HO
    isplitr; · iempintro
    iexact Hr
  hin c := by
    rw [phi0]
    iintro ⟨-, -, H⟩; iexact H
  hout c := by
    rw [Pipeline.ownSems0_none, phi0]
    iintro H
    isplitr; · iempintro
    isplitr; · iempintro
    iexact H
  hexit c := by
    have hsplit := Pipeline.unscopedBufs_split (Ix := Unit) (Name := ℕ) (U := UR sig nD τ) (Lvl := ℕ) (Val := Elt F) (fun p => cfgs p) 0 launch0.win.arr_unscoped launch0.win.arr_inj c (fun b => W2 m c (Proc.devRef (τ := τ) .tc b))
    rw [← Pipeline.unscopedBufs_held, hsplit, rest0,
      show (rdats m 0 c).arraysAt (Pipeline.pin (pcfgs (F := F)) adm 0).N = (dat0 m c).arrays ((dat0 m c).arrAt · cfg0.N) from (dat0 m c).toR_arraysAt_eq _,
      show (dat0 m c).arrays ((dat0 m c).arrAt · cfg0.N) = bigSep Finset.univ fun w => ((c.tc : Thread nD τ).loc (arrRef spec0 w) ↦{fullShare} W2 m c (arrRef spec0 w) : sProp 𝕄) from ?_]
    · iintro ⟨Ha, HO, -, Hr⟩
      imodintro
      isplitr [HO]
      · isplitl [Ha]
        · iexact Ha
        iexact Hr
      unfold rest; icases HO with ⟨%W, -, HO⟩; iexists W; iexact HO
    · unfold Dat.arrays
      refine bigSep_congr fun w _ => ?_
      have e := (launch0.arr_whole w).set_eq_univ
      change (cfg0.win w).arr.view.set = _ at e
      dsimp only
      rw [e, show (dat0 m c).share w = fullShare from share0 m c w, arrAt0]

/-- The second kernel as a segment: entered with every buffer at `W3`, left with its arrays as the relations have them
    and every other buffer at `W3`. -/
def R1 : RDat.RegionSeg (pcfgs (F := F)) adm (rdats m) () defs₀ Variants.none lvSet lvMap 1 where
  win := launch1.win.to₀
  block_pos := launch1.block_pos
  stage_whole := launch1.stage_whole
  K := PEmpty
  osem k := k.elim
  ho := Pipeline.OwnSemFacts.none _
  hbody c := (hbody1 m c).toRRel
  hwaits := RDat.hwaits_of_owed_zero (pcfgs (F := F)) adm (rdats m) () lvSet lvMap 1 fun _ _ => rfl
  pre c := iprop(StableHlo.held (c : Thread nD τ) (Pipeline.ucRefs τ sig) (W3 m c) ∗ rest 1 c)
  post c := iprop(((rdats m 1 c).arraysAt cfg1.N ∗ Pipeline.unscopedRest spec1 c fun b => W3 m c b) ∗ rest 2 c)
  X _ := iprop(emp)
  Y _ := iprop(emp)
  Z c := Pipeline.unscopedRest spec1 c fun b => W3 m c b
  hentry c := by
    rw [Pipeline.ownSems0_none, Pipeline.prefHeld_of_none _ rfl, ← Pipeline.unscopedBufs_held]
    have hsplit := RDat.arrays_of_unscopedBufs (pcfgs (F := F)) adm (rdats m) (p := 1) launch1.win launch1.arr_whole c (share1 m c)
      (fun b => W3 m c b) (fun w => rfl)
    iintro ⟨⟨Hh, HO⟩, -, -⟩
    ihave H := hsplit $$ Hh
    icases H with ⟨Ha, Hr⟩
    imodintro
    isplitl [Ha]; · iexact Ha
    isplitr; · iempintro
    isplitl [HO]
    · unfold rest; icases HO with ⟨%W, HO⟩; iexists W; isplitr; · ipureintro; exact fun _ _ => Or.inl trivial
      iexact HO
    isplitr; · iempintro
    iexact Hr
  hin c := by
    rw [phi1]
    iintro ⟨-, -, H⟩; iexact H
  hout c := by
    rw [Pipeline.ownSems0_none, phi1]
    iintro H
    isplitr; · iempintro
    isplitr; · iempintro
    iexact H
  hexit c := by
    iintro ⟨Ha, HO, -, Hr⟩
    imodintro
    isplitr [HO]
    · isplitl [Ha]
      · iexact Ha
      iexact Hr
    unfold rest; icases HO with ⟨%W, -, HO⟩; iexists W; iexact HO

/-- The arguments. -/
abbrev argRefs : List (Ref sig .tc) :=
  [main_arg0, main_arg1, main_arg2, main_arg3, main_arg4, main_arg5, main_arg6, main_arg7, main_arg8, main_arg9, main_arg10, main_arg11]

/-- The second kernel leaves its first array as it found it. -/
theorem x_kept (c : Dev nD) (n : ℕ) (s : MemSt nD τ sig (Elt F))
    (h : ∀ w, (rdats m 1 c).ArrAt w n (s.mem (((Pipeline.pin (pcfgs (F := F)) adm 1).spec w).arr.view.loc (c.tc : Thread nD τ)))) :
    s.mem ((c.tc : Thread nD τ).loc main_arg0) = W3 m c main_arg0 := by
  have e : (rdats m 1 c).ArrAt (0 : Fin 5) n = fun G => G = (rdats m 1 c).A (0 : Fin 5) :=
    (rdats m 1 c).ArrAt_in (0 : Fin 5) rfl n
  have h0 := h (0 : Fin 5)
  rw [e] at h0
  exact h0

/-- @main's four items as segments. -/
abbrev items (c : Dev nD) : List (RDat.Seg (pcfgs (F := F)) adm (rdats m) () defs₀ Variants.none lvSet lvMap) :=
  [.host (seg0 m Variants.none lvSet lvMap rest), .region (R0 m), .host (seg2 m (outs m) Variants.none lvSet lvMap rest), .region (R1 m)]

/-- No host operation and no kernel writes an argument: an argument enters the second kernel as launched. -/
theorem W3_arg (c : Dev nD) (b : Ref sig .tc) (hb : b ∈ argRefs) : W3 m c b = m ((c : Thread nD τ).loc b) := by
  have h1 : ∀ b ∈ argRefs, b ∉ hostOps1_W := by decide
  have h2 : ∀ b ∈ argRefs, b ∉ ([main_v6] : List (Ref sig .tc)) := by decide
  have h3 : ∀ b ∈ argRefs, b ∉ hostOps0_W := by decide
  rw [W3_eq]
  exact (V3_of m (outs m) c b (h1 b hb)).trans <| (V2_of m (outs m) c b (h2 b hb)).trans <| (V1_of m c b (h3 b hb)).trans rfl

/-- An argument is the second kernel's first array or none of its arrays. -/
theorem arg_rest : ∀ b ∈ argRefs, b = main_arg0 ∨ b ∈ (Finset.univ.filter fun b : Ref sig .tc => ¬ b.isScoped) \ Finset.univ.image (arrRef spec1) := by
  decide

/-- What the final memory of a core is held to: the arguments as launched, and the result array as the second kernel's
    relations have it. -/
def Final (c : Dev nD) (n : ℕ) (s : MemSt nD τ sig (Elt F)) : Prop :=
  (∀ b ∈ argRefs, s.mem ((c.tc : Thread nD τ).loc b) = m ((c.tc : Thread nD τ).loc b))
    ∧ (rdats m 1 c).ArrAt (4 : Fin 5) n (s.mem ((c.tc : Thread nD τ).loc main_v9))

/-- A memory with the second kernel's arrays as its relations have them and every other buffer at `W3` is `Final`. -/
theorem final_of (c : Dev nD) (s : MemSt nD τ sig (Elt F))
    (n : ℕ) (h : ∀ w, (rdats m 1 c).ArrAt w n (s.mem (((Pipeline.pin (pcfgs (F := F)) adm 1).spec w).arr.view.loc (c.tc : Thread nD τ))))
    (h' : ∀ b ∈ (Finset.univ.filter fun b : Ref sig .tc => ¬ b.isScoped) \ Finset.univ.image (arrRef spec1),
      s.mem ((c.tc : Thread nD τ).loc b) = W3 m c b) : Final m c n s := by
  refine ⟨fun b hb => ?_, h (4 : Fin 5)⟩
  rcases arg_rest b hb with e | hr
  · rw [e]
    rw [x_kept m c n s h, W3_arg m c main_arg0 (by decide)]
  · rw [h' b hr, W3_arg m c b hb]

set_option maxHeartbeats 1000000 in
set_option backward.isDefEq.respectTransparency.types false in
/-- The run: every fair execution of @main ends, with every core's memory `Final` and every semaphore at zero. -/
theorem run (g : Dev nD → PrngReg) :
    θ_run defs (onTc (τ := τ) (main (F := F))) ⟨m, fun _ => 0, g⟩ (fun r => (∀ c : Dev nD, Final m c cfg1.N r.2) ∧ r.2.sem = fun _ => 0) := by
  refine RDat.θ_run_regions_kit_dev_sems (pcfgs (F := F)) adm (rdats m) () cellOf_inj emb₁ defs₀ Variants.none lvSet lvMap m g main (items m)
    (fun c Q => by
      rewrite [main_chain c, RDat.Seg.run_eq_chain,
        show (items m c).map RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, RDat.Seg.pipes_host, RDat.Seg.pipes_region, RDat.Seg.pipes_nil]; decide)
    0 (fun _ _ => rfl) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ rest 0 c))
    (Tₙ := fun c => iprop((rdats m 1 c).arraysAt cfg1.N ∗ Pipeline.unscopedRest spec1 c fun b => W3 m c b))
    (hch := fun c => ⟨.rfl, ?_, ?_, ?_, .rfl⟩)
    (hinit := ?_) (QY := fun c s => Final m c cfg1.N s) (hfin := fun c s' => ?_)
    (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (V1 m c) ∗ rest 0 c)
      ⊢ iprop(StableHlo.held (c : Thread nD τ) (Pipeline.ucRefs τ sig) (W1 m c) ∗ rest 0 c)
    rw [W1_eq]
  · show iprop(StableHlo.held (c : Thread nD τ) (Pipeline.ucRefs τ sig) (W2 m c) ∗ rest 1 c)
      ⊢ iprop(StableHlo.held (c : Thread nD τ) (Pipeline.ucRefs τ sig) (V2 m (outs m) c) ∗ rest 1 c)
    rw [W2_eq]
  · show iprop(StableHlo.held (c : Thread nD τ) (Pipeline.ucRefs τ sig) (V3 m (outs m) c) ∗ rest 1 c)
      ⊢ iprop(StableHlo.held (c : Thread nD τ) (Pipeline.ucRefs τ sig) (W3 m c) ∗ rest 1 c)
    rw [W3_eq]
  · refine Pipeline.initEach lvSet lvMap fun c => ?_
    rw [show (unscopedBufs c (fun b => m ((c.tc : Thread nD τ).loc b)) : sProp 𝕄) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    unfold rest
    iexists ∅; iexact HO
  · iintro ⟨⟨Ha, Hr⟩, HSI⟩
    ihave H := (RDat.arrays_read (pcfgs (F := F)) adm (rdats m) (p := 1) launch1.arr_whole c cfg1.N s') $$ [Ha HSI]
    · isplitl [Ha] <;> iassumption
    icases H with ⟨%h, HSI⟩
    unfold Pipeline.unscopedRest
    ihave H := (pointsTo_read_all _ (fun b => (c.tc : Thread nD τ).loc b) (fun b => W3 m c b) s') $$ [Hr HSI]
    · isplitl [Hr] <;> iassumption
    icases H with ⟨%h', HSI⟩
    imodintro
    isplitr
    · ipureintro
      exact final_of m c s'.mem cfg1.N h h'
    · iexact HSI

end Cert.KernelIdeal.Work
-- ==== Proof.Frames.lean ====
module

public import proofs.«01_k».proof.Defs
public import proofs.«01_k».proof.Proof.Same
public import proofs.«01_k».proof.Proof.Run
public import proofs.«01_k».proof.Proof.Gen.ReferenceIdeal
public import proofs.«01_k».proof.Proof.Gen.ReferenceIdeal.Run
public import Idealize.ShloMosaic.Lib.Quiescent

/-!
# The frames

Each program ends from every memory, its arguments unchanged and every semaphore at zero. The kernel's is read off the run
of `Run.lean`; the reference launches nothing, so its run is the host operations' and it has no semaphore.
-/

@[expose] public section
set_option maxRecDepth 65536

noncomputable section

namespace Cert.Frames

open Idealize.ShloMosaic Idealize.ShloMosaic.TcCoe Idealize.SL.Sem

/-- The precondition's shape facts. -/
theorem preFacts : Cert.Pre_operands_finite.Facts where
  slices_S16384x50x5_S16384x50x1_0_0_1 := by decide
  shapeCasts_S16384x50x1_S16384x50 := by decide
  bcast_S_S16384x50 := by decide
  reducesTo_S16384x50_S_d0_1 := by decide
  h_S_ := by decide
  slices_S16384x50x5_S16384x50x1_0_0_3 := by decide
  slices_S2x8_S1x8_0_0 := by decide
  shapeCasts_S1x8_S8 := by decide
  bcast_S_S8 := by decide
  reducesTo_S8_S_d0 := by decide
  slices_S256x136_S256x32_0_32 := by decide
  bcast_S_S256x32 := by decide
  reducesTo_S256x32_S_d0_1 := by decide
  slices_S256x136_S256x40_0_96 := by decide
  bcast_S_S256x40 := by decide
  reducesTo_S256x40_S_d0_1 := by decide

section

variable {F : FTy → Type} [FloatOps F]

open Cert.KernelIdeal

/-- The arguments as launched, one equation per argument, from the run's statement over their list. -/
theorem args_kept (m : (ℓ : Loc nD τ sig) → Buf (Elt F) ℓ) (c : Dev nD) (s : MemSt nD τ sig (Elt F))
    (h : ∀ b ∈ Work.argRefs, s.mem ((c.tc : Thread nD τ).loc b) = m ((c.tc : Thread nD τ).loc b)) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11) :=
  ⟨h _ (by decide), h _ (by decide), h _ (by decide), h _ (by decide), h _ (by decide), h _ (by decide), h _ (by decide),
    h _ (by decide), h _ (by decide), h _ (by decide), h _ (by decide), h _ (by decide)⟩

end

/-- The frame of the kernel at float words. -/
theorem kernel : quiescent_Kernel (hKernel := Cert.Kernel.Gen.facts) := by
  intro m g _
  rw [Same.defs_same, Same.main_same]
  exact (θ_run _ _ _).mono (fun r h => ⟨fun c => args_kept m c r.2 (h.1 c).1, h.2⟩) (Cert.KernelIdeal.Work.run m g)

/-- The frame of the kernel at extended reals. -/
theorem kernelIdeal : quiescent_KernelIdeal (hKernelIdeal := Cert.KernelIdeal.Gen.facts) := by
  intro m g _
  exact (θ_run _ _ _).mono (fun r h => ⟨fun c => args_kept m c r.2 (h.1 c).1, h.2⟩) (Cert.KernelIdeal.Work.run m g)

/-- The same under the precondition. -/
theorem kernelIdeal_pre : quiescent_KernelIdeal_pre_operands_finite (hKernelIdeal := Cert.KernelIdeal.Gen.facts) (hPre_operands_finite := preFacts) := by
  intro m g _
  exact kernelIdeal m g trivial

/-- The frame of the reference at extended reals. -/
theorem referenceIdeal : quiescent_ReferenceIdeal (hReferenceIdeal := Cert.ReferenceIdeal.Gen.facts) := by
  intro m g _
  exact (θ_run _ _ _).mono (fun r h => ⟨fun c => (h c).2, sem_eq_zero_of_no_sems rfl r.2⟩) (Cert.ReferenceIdeal.Value.run m g)

/-- The same under the precondition. -/
theorem referenceIdeal_pre : quiescent_ReferenceIdeal_pre_operands_finite (hReferenceIdeal := Cert.ReferenceIdeal.Gen.facts) (hPre_operands_finite := preFacts) := by
  intro m g _
  exact referenceIdeal m g trivial

end Cert.Frames
-- ==== Proof.Arith.lean ====
module

public import Idealize.ShloMosaic.PureOps.Ideal

/-! The arithmetic of the two programs over the extended reals: sums that differ only where both
are infinite, and the layer norm, which does not tell such sums apart. -/

@[expose] public section

namespace Cert.Arith

open Idealize.ShloMosaic

/-- An infinite value. -/
def Inf (a : EReal) : Prop := a = ⊤ ∨ a = ⊥

/-- Two values that are equal, or are both infinite. -/
def Like (a b : EReal) : Prop := a = b ∨ (Inf a ∧ Inf b)

/-- A value is infinite or it is a real number. -/
theorem inf_or_real (a : EReal) : Inf a ∨ ∃ r : ℝ, a = (r : EReal) := by
  induction a with
  | bot => exact .inl (.inr rfl)
  | top => exact .inl (.inl rfl)
  | coe r => exact .inr ⟨r, rfl⟩

/-- An infinite value plus anything is infinite. -/
theorem Inf.add {a : EReal} (h : Inf a) (b : EReal) : Inf (a + b) := by
  rcases h with rfl | rfl
  · induction b with
    | bot => exact .inr (EReal.add_bot _)
    | top => exact .inl rfl
    | coe r => exact .inl (EReal.top_add_coe r)
  · exact .inr (EReal.bot_add b)

/-- Anything plus an infinite value is infinite. -/
theorem Inf.add' {b : EReal} (h : Inf b) (a : EReal) : Inf (a + b) := by
  rw [add_comm]; exact h.add a

/-- The negative of an infinite value is infinite. -/
theorem Inf.neg {a : EReal} (h : Inf a) : Inf (-a) := by
  rcases h with rfl | rfl
  · exact .inr EReal.neg_top
  · exact .inl EReal.neg_bot

/-- An infinite value times a real number that is not zero is infinite. -/
theorem Inf.mul {a : EReal} (h : Inf a) {w : ℝ} (hw : w ≠ 0) : Inf (a * (w : EReal)) := by
  rcases lt_or_gt_of_ne hw with hn | hp
  · rcases h with rfl | rfl
    · exact .inr (EReal.top_mul_coe_of_neg hn)
    · exact .inl (EReal.bot_mul_coe_of_neg hn)
  · rcases h with rfl | rfl
    · exact .inl (EReal.top_mul_coe_of_pos hp)
    · exact .inr (EReal.bot_mul_coe_of_pos hp)

/-- The square of an infinite value is `⊤`. -/
theorem Inf.sq {a : EReal} (h : Inf a) : a * a = ⊤ := by
  rcases h with rfl | rfl
  · exact EReal.top_mul_top
  · exact EReal.bot_mul_bot

/-- A square is not negative. -/
theorem sq_nonneg' (a : EReal) : 0 ≤ a * a := by
  rcases inf_or_real a with h | ⟨r, rfl⟩
  · rw [h.sq]; exact le_top
  · rw [← EReal.coe_mul]; exact_mod_cast mul_self_nonneg r

/-- A sum with an infinite term is infinite. -/
theorem Inf.sum {ι : Type} [Fintype ι] [DecidableEq ι] {f : ι → EReal} {i : ι} (h : Inf (f i)) :
    Inf (∑ k, f k) := by
  rw [← Finset.add_sum_erase _ _ (Finset.mem_univ i)]
  exact h.add _

/-- Alike is reflexive. -/
theorem Like.refl (a : EReal) : Like a a := .inl rfl

/-- Equals are alike. -/
theorem Like.of_eq {a b : EReal} (h : a = b) : Like a b := .inl h

/-- Alike is symmetric. -/
theorem Like.symm {a b : EReal} (h : Like a b) : Like b a :=
  h.elim (fun e => .inl e.symm) fun ⟨x, y⟩ => .inr ⟨y, x⟩

/-- Alike is transitive. -/
theorem Like.trans {a b c : EReal} (h : Like a b) (k : Like b c) : Like a c := by
  rcases h with rfl | ⟨ha, hb⟩
  · exact k
  · rcases k with rfl | ⟨_, hc⟩
    · exact .inr ⟨ha, hb⟩
    · exact .inr ⟨ha, hc⟩

/-- Sums of two likes are alike. -/
theorem Like.add {a b c d : EReal} (h : Like a b) (k : Like c d) : Like (a + c) (b + d) := by
  rcases h with rfl | ⟨ha, hb⟩
  · rcases k with rfl | ⟨hc, hd⟩
    · exact .refl _
    · exact .inr ⟨hc.add' _, hd.add' _⟩
  · exact .inr ⟨ha.add _, hb.add _⟩

/-- Sums of terms alike one by one are alike. -/
theorem Like.sum {ι : Type} (s : Finset ι) {f g : ι → EReal} (h : ∀ i, Like (f i) (g i)) :
    Like (∑ i ∈ s, f i) (∑ i ∈ s, g i) := by
  classical
  induction s using Finset.induction_on with
  | empty => exact .refl _
  | insert a s ha ih => rw [Finset.sum_insert ha, Finset.sum_insert ha]; exact (h a).add ih

/-- A real factor distributes over a sum, up to which infinity comes out. -/
theorem like_add_mul (x y : EReal) (w : ℝ) : Like ((x + y) * (w : EReal)) (x * w + y * w) := by
  by_cases hw : w = 0
  · subst hw; simp only [EReal.coe_zero, mul_zero, add_zero]; exact .refl _
  rcases inf_or_real x with hx | ⟨a, rfl⟩
  · exact .inr ⟨(hx.add y).mul hw, (hx.mul hw).add _⟩
  rcases inf_or_real y with hy | ⟨b, rfl⟩
  · exact .inr ⟨(hy.add' _).mul hw, (hy.mul hw).add' _⟩
  · refine .inl ?_
    rw [← EReal.coe_add, ← EReal.coe_mul, ← EReal.coe_mul, ← EReal.coe_mul, ← EReal.coe_add, add_mul]

/-- A real factor comes out of a sum, up to which infinity comes out. -/
theorem like_mul_sum {ι : Type} (s : Finset ι) (f : ι → EReal) (w : ℝ) :
    Like ((w : EReal) * ∑ i ∈ s, f i) (∑ i ∈ s, (w : EReal) * f i) := by
  classical
  induction s using Finset.induction_on with
  | empty => simp only [Finset.sum_empty, mul_zero]; exact .refl _
  | insert a s ha ih =>
    rw [Finset.sum_insert ha, Finset.sum_insert ha, mul_comm]
    refine (like_add_mul _ _ w).trans ?_
    rw [mul_comm (f a), mul_comm (∑ i ∈ s, f i)]
    exact (Like.refl _).add ih

/-- An affine projection applied before a sum of products, or folded into the weights of two sums:
alike, where the projected value and the weights are real. -/
theorem like_affine {ι : Type} [Fintype ι] (l : ℝ) (p q : ι → EReal) (W : ι → EReal)
    (hW : ∀ k, ∃ r : ℝ, W k = (r : EReal)) :
    Like ((l : EReal) * (∑ k, p k * W k) + ∑ k, q k * W k) (∑ k, ((l : EReal) * p k + q k) * W k) := by
  refine ((like_mul_sum _ _ l).add (.refl _)).trans ?_
  rw [← Finset.sum_add_distrib]
  refine Like.sum _ fun k => ?_
  obtain ⟨r, hr⟩ := hW k
  rw [hr, ← mul_assoc]
  exact (like_add_mul _ _ r).symm

/-- A sum of products of real numbers is real. -/
theorem real_sum_mul {ι : Type} [Fintype ι] (p W : ι → EReal) (hp : ∀ k, ∃ r : ℝ, p k = (r : EReal))
    (hW : ∀ k, ∃ r : ℝ, W k = (r : EReal)) : ∃ r : ℝ, ∑ k, p k * W k = (r : EReal) := by
  classical
  choose a ha using hp
  choose b hb using hW
  refine ⟨∑ k, a k * b k, ?_⟩
  have : ∀ s : Finset ι, ∑ k ∈ s, p k * W k = ((∑ k ∈ s, a k * b k : ℝ) : EReal) := by
    intro s
    induction s using Finset.induction_on with
    | empty => simp
    | insert i s hi ih => rw [Finset.sum_insert hi, Finset.sum_insert hi, ih, ha, hb, EReal.coe_add, EReal.coe_mul]
  exact this _

/-- The first of two values, moved by the whole of their difference, is the second. -/
theorem sub_add_real (a : EReal) (t : ℝ) : (a - (t : EReal)) + t = a := by
  rcases inf_or_real a with (rfl | rfl) | ⟨r, rfl⟩
  · simp
  · simp
  · rw [← EReal.coe_sub, ← EReal.coe_add, sub_add_cancel]

/-- The mean of 256 values. -/
noncomputable def mean (h : Fin 256 → EReal) : EReal := Ideal.div (∑ k, h k) ((256 : ℝ) : EReal)

/-- The variance of 256 values. -/
noncomputable def var (h : Fin 256 → EReal) : EReal := mean fun k => (h k - mean h) * (h k - mean h)

/-- The layer norm as a product by a reciprocal square root. -/
noncomputable def lnMul (e : ℝ) (h : Fin 256 → EReal) (g b : EReal) (o : Fin 256) : EReal :=
  ((h o - mean h) * Ideal.rsqrt (var h + e)) * g + b

/-- The layer norm as a quotient by a square root. -/
noncomputable def lnDiv (e : ℝ) (h : Fin 256 → EReal) (g b : EReal) (o : Fin 256) : EReal :=
  Ideal.div (h o - mean h) (Ideal.sqrt (var h + e)) * g + b

/-- A mean is its sum times the real number 1/256. -/
theorem mean_eq (h : Fin 256 → EReal) : mean h = (∑ k, h k) * ((1 / 256 : ℝ) : EReal) :=
  Ideal.div_coe (by norm_num) _

/-- A variance is not negative. -/
theorem var_nonneg (h : Fin 256 → EReal) : 0 ≤ var h := by
  rw [var, mean_eq]
  exact EReal.mul_nonneg (Finset.sum_nonneg fun k _ => sq_nonneg' _) (by exact_mod_cast (by norm_num : (0 : ℝ) ≤ 1 / 256))

/-- The two layer norms are one function of their row. -/
theorem lnMul_eq_lnDiv {e : ℝ} (he : 0 < e) (h : Fin 256 → EReal) (g b : EReal) (o : Fin 256) :
    lnMul e h g b o = lnDiv e h g b o := by
  have hv := var_nonneg h
  unfold lnMul lnDiv
  congr 2
  generalize var h = v at hv
  generalize h o - mean h = d
  rcases inf_or_real v with (rfl | rfl) | ⟨r, rfl⟩
  · rw [EReal.top_add_coe]
    show d * 0 = Ideal.div d ⊤
    rw [Ideal.div, if_neg EReal.top_ne_zero, EReal.inv_top]
  · exact absurd hv (by simp)
  · have hr : 0 ≤ r := by exact_mod_cast hv
    have hp : 0 < r + e := by linarith
    rw [← EReal.coe_add]
    show d * (if r + e < 0 then ⊥ else if r + e = 0 then ⊤ else (((Real.sqrt (r + e))⁻¹ : ℝ) : EReal))
      = Ideal.div d (if r + e < 0 then ⊥ else (Real.sqrt (r + e) : EReal))
    rw [if_neg hp.not_gt, if_neg hp.ne', if_neg hp.not_gt, Ideal.div_coe (Real.sqrt_pos.2 hp).ne', one_div]

/-- A row with an infinite value: its layer norm keeps only the shift. -/
theorem lnMul_of_inf {e : ℝ} {h : Fin 256 → EReal} {i : Fin 256} (hi : Inf (h i)) (g b : EReal) (o : Fin 256) :
    lnMul e h g b o = 0 * g + b := by
  have hm : Inf (mean h) := by
    rw [mean_eq]; exact (Inf.sum hi).mul (by norm_num)
  have hd : ∀ k, Inf (h k - mean h) := fun k => by
    rw [sub_eq_add_neg]; exact hm.neg.add' _
  have hv : var h = ⊤ := by
    rw [var, mean_eq]
    have hs : (∑ k, (h k - mean h) * (h k - mean h)) = ⊤ := by
      rcases Inf.sum (f := fun k => (h k - mean h) * (h k - mean h)) (i := i) (.inl (hd i).sq) with hs | hs
      · exact hs
      · have h0 : (0 : EReal) ≤ ∑ k, (h k - mean h) * (h k - mean h) :=
          Finset.sum_nonneg fun k _ => sq_nonneg' _
        rw [hs] at h0
        exact absurd h0 (by simp)
    rw [hs]
    exact EReal.top_mul_coe_of_pos (by norm_num)
  unfold lnMul
  rw [hv, EReal.top_add_coe]
  show ((h o - mean h) * 0) * g + b = _
  rw [mul_zero]

/-- Rows alike value by value have one layer norm. -/
theorem lnMul_congr {e : ℝ} {h k : Fin 256 → EReal} (hk : ∀ i, Like (h i) (k i)) (g b : EReal) (o : Fin 256) :
    lnMul e h g b o = lnMul e k g b o := by
  by_cases hx : ∃ i, Inf (h i)
  · obtain ⟨i, hi⟩ := hx
    have ki : Inf (k i) := (hk i).elim (fun e => e ▸ hi) And.right
    rw [lnMul_of_inf hi, lnMul_of_inf ki]
  · have : h = k := funext fun i => (hk i).elim id fun c => absurd ⟨i, c.1⟩ hx
    rw [this]

/-- The five parts of the fused vector: a sum over 136 products, part by part. -/
theorem sum_parts (f : Fin 136 → EReal) :
    ∑ k, f k = (∑ k : Fin 32, f ⟨k, by omega⟩) + (∑ k : Fin 32, f ⟨32 + k, by omega⟩)
      + (∑ k : Fin 32, f ⟨64 + k, by omega⟩) + (∑ k : Fin 32, f ⟨96 + k, by omega⟩)
      + ∑ k : Fin 8, f ⟨128 + k, by omega⟩ := by
  rw [show (∑ k, f k) = ∑ k : Fin (32 + 32 + 32 + 32 + 8), f k from rfl, Fin.sum_univ_add, Fin.sum_univ_add,
    Fin.sum_univ_add, Fin.sum_univ_add]
  rfl

end Cert.Arith
-- ==== Proof.Hidden.lean ====
module

public import proofs.«01_k».proof.Proof.Arith
public import Idealize.ShloMosaic.Lib.WordArith
public import Idealize.ShloMosaic.Lib.ValueIdx

@[expose] public section

/-! One row before its layer norm, in the two forms the programs compute: sums over tables that were
multiplied by the fusion weights beforehand, and one sum over the joined embeddings. -/

namespace Cert.Arith

open Idealize.ShloMosaic

/-- The constant under the square root, as a real number. -/
noncomputable def eps : ℝ := 10995116 / 2 ^ 40

/-- That constant is positive. -/
theorem eps_pos : 0 < eps := by unfold eps; norm_num

/-- The word of that constant. -/
theorem ofBits_eps : Ideal.ofBits .f32 0x3727C5AC#32 = (eps : EReal) := by
  unfold eps
  simp [Ideal.ofBits, Ideal.ieee, -EReal.coe_mul]; norm_num

/-- The word of 256. -/
theorem ofBits_256 : Ideal.ofBits .f32 0x43800000#32 = ((256 : ℝ) : EReal) := by
  simp [Ideal.ofBits, Ideal.ieee, -EReal.coe_mul]; norm_num

/-- A feature as a table's row: converted to an integer, then clamped to `[0, hi]`. -/
noncomputable def pick (hi : BitVec 32) (v : EReal) : BitVec 32 :=
  IntOp.minsi hi (IntOp.maxsi 0#32 (FloatOps.fptosi (F := Ideal) (φ := .f32) 32 v))

/-- The clamp holds the row number under its bound. -/
theorem pick_le {hi : BitVec 32} (h : hi.toNat < 2 ^ 31) (v : EReal) : (pick hi v).toNat ≤ hi.toNat := by
  unfold pick
  generalize (FloatOps.fptosi (F := Ideal) (φ := .f32) 32 v) = w
  have hm : (IntOp.maxsi 0#32 w).toNat < 2 ^ 31 := by
    rw [WordArith.toNat_maxsi_zero]
    have := BitVec.toInt_lt (x := w)
    omega
  unfold IntOp.minsi
  split
  · exact le_refl _
  · rename_i hs
    rw [BitVec.slt_eq_decide, decide_eq_true_eq] at hs
    rw [BitVec.toInt_eq_toNat_of_lt (by omega), BitVec.toInt_eq_toNat_of_lt (by omega)] at hs
    omega

/-- The row of a table of `n` rows that a feature picks. -/
noncomputable def row (n : ℕ) (hi : BitVec 32) (h : hi.toNat < 2 ^ 31) (hn : hi.toNat < n) (v : EReal) : Fin n :=
  ⟨(pick hi v).toNat, lt_of_le_of_lt (pick_le h v) hn⟩

/-- The protocol's row. -/
noncomputable def protoRow (v : EReal) : Fin 256 := row 256 255#32 (by decide) (by decide) v
/-- The flags' row. -/
noncomputable def flagsRow (v : EReal) : Fin 64 := row 64 63#32 (by decide) (by decide) v
/-- The direction's row. -/
noncomputable def dirRow (v : EReal) : Fin 2 := row 2 1#32 (by decide) (by decide) v

/-- The direction's row number as a value. -/
theorem sitofp_pick (v : EReal) :
    FloatOps.sitofp (F := Ideal) .f32 (pick 1#32 v) = (((dirRow v).val : ℝ) : EReal) := by
  have h := pick_le (hi := 1#32) (by decide) v
  have h1 : (pick 1#32 v).toNat ≤ 1 := h
  show (((pick 1#32 v).toInt : ℝ) : EReal) = (((pick 1#32 v).toNat : ℝ) : EReal)
  rw [BitVec.toInt_eq_toNat_of_lt (by omega)]
  norm_cast

/-- A sum over a table's rows of those that either of two row numbers marks: the two rows. -/
theorem sum_two_rows (f : Fin 384 → EReal) (u v : BitVec 32) (hu : u.toNat ≤ 255) (hv : v.toNat ≤ 63) :
    (∑ x : Fin 384, Scalar.select (IntOp.ori (IntOp.cmpi .eq (BitVec.ofNat 32 x) u)
        (IntOp.cmpi .eq (BitVec.ofNat 32 x) (IntOp.addi v 256#32))) (f x) 0)
      = f ⟨u.toNat, by omega⟩ + f ⟨256 + v.toNat, by omega⟩ := by
  have key : ∀ x : Fin 384, Scalar.select (IntOp.ori (IntOp.cmpi .eq (BitVec.ofNat 32 x) u)
        (IntOp.cmpi .eq (BitVec.ofNat 32 x) (IntOp.addi v 256#32))) (f x) 0
      = (if x = ⟨u.toNat, by omega⟩ then f x else 0) + (if x = ⟨256 + v.toNat, by omega⟩ then f x else 0) := by
    intro x
    have e : ∀ w : BitVec 32, (BitVec.ofNat 32 x.val == w) = decide (x.val = w.toNat) := fun w => by
      rw [Bool.eq_iff_iff, beq_iff_eq, decide_eq_true_eq]
      constructor
      · rintro rfl
        rw [BitVec.toNat_ofNat, Nat.mod_eq_of_lt (by omega)]
      · intro h
        apply BitVec.eq_of_toNat_eq
        rw [BitVec.toNat_ofNat, Nat.mod_eq_of_lt (by omega), h]
    have hs : (IntOp.addi v 256#32).toNat = 256 + v.toNat := by
      unfold IntOp.addi
      rw [BitVec.toNat_add, BitVec.toNat_ofNat]
      omega
    simp only [IntOp.cmpi, e, hs, Fin.ext_iff]
    by_cases h1 : x.val = u.toNat
    · rw [if_pos h1, if_neg (by omega), add_zero, decide_eq_true h1, decide_eq_false (by omega)]
      rfl
    · rw [if_neg h1, zero_add, decide_eq_false h1]
      by_cases h2 : x.val = 256 + v.toNat
      · rw [if_pos h2, decide_eq_true h2]; rfl
      · rw [if_neg h2, decide_eq_false h2]; rfl
  rw [Finset.sum_congr rfl fun x _ => key x, Finset.sum_add_distrib, Finset.sum_ite_eq', Finset.sum_ite_eq',
    if_pos (Finset.mem_univ _), if_pos (Finset.mem_univ _)]

section
variable (x : Fin 5 → EReal) (ep : Fin 256 → Fin 32 → EReal) (ef : Fin 64 → Fin 32 → EReal) (ed : Fin 2 → Fin 8 → EReal)
  (wl bl wi bi : Fin 32 → EReal) (W : Fin 136 → EReal) (bf : EReal)

/-- One value of a row as the kernel has it: every table multiplied by the weights `W` beforehand. -/
noncomputable def hidTable : EReal :=
  ((∑ k : Fin 32, ep (protoRow (x 0)) k * W ⟨k, by omega⟩) + (∑ k : Fin 32, ef (flagsRow (x 2)) k * W ⟨64 + k, by omega⟩)
      + x 1 * (∑ k : Fin 32, wl k * W ⟨32 + k, by omega⟩)
      + x 3 * (∑ k : Fin 32, wi k * W ⟨96 + k, by omega⟩)
      + (((dirRow (x 4)).val : ℝ) : EReal)
        * ((∑ k : Fin 8, ed 1 k * W ⟨128 + k, by omega⟩) - ∑ k : Fin 8, ed 0 k * W ⟨128 + k, by omega⟩))
    + (((bf + ∑ k : Fin 32, bl k * W ⟨32 + k, by omega⟩) + ∑ k : Fin 32, bi k * W ⟨96 + k, by omega⟩)
      + ∑ k : Fin 8, ed 0 k * W ⟨128 + k, by omega⟩)

/-- The same value as the reference has it: the five embeddings joined and multiplied by the weights `W`. -/
noncomputable def hidJoin : EReal :=
  ((∑ k : Fin 32, ep (protoRow (x 0)) k * W ⟨k, by omega⟩) + (∑ k : Fin 32, (x 1 * wl k + bl k) * W ⟨32 + k, by omega⟩)
      + (∑ k : Fin 32, ef (flagsRow (x 2)) k * W ⟨64 + k, by omega⟩)
      + (∑ k : Fin 32, (x 3 * wi k + bi k) * W ⟨96 + k, by omega⟩)
      + ∑ k : Fin 8, ed (dirRow (x 4)) k * W ⟨128 + k, by omega⟩) + bf

variable {x ep ef ed wl bl wi bi W bf}

/-- A direction's share: the first row's, moved by the difference as often as the direction's number says. -/
theorem dir_share (d : Fin 2) (t : Fin 2 → EReal) (h : ∃ r : ℝ, t 0 = (r : EReal)) :
    ((d.val : ℝ) : EReal) * (t 1 - t 0) + t 0 = t d := by
  obtain ⟨r, hr⟩ := h
  match d with
  | 0 => simp
  | 1 => simp only [Fin.val_one, Nat.cast_one, EReal.coe_one, one_mul, hr]; exact sub_add_real _ r

/-- The two forms are equal or both infinite, where the two features that are multiplied, the first direction and the
    weights that meet a projection or a direction are real. -/
theorem like_hid (h1 : ∃ r : ℝ, x 1 = (r : EReal)) (h3 : ∃ r : ℝ, x 3 = (r : EReal))
    (hd : ∀ k, ∃ r : ℝ, ed 0 k = (r : EReal)) (hl : ∀ k : Fin 32, ∃ r : ℝ, W ⟨32 + k, by omega⟩ = (r : EReal))
    (hi : ∀ k : Fin 32, ∃ r : ℝ, W ⟨96 + k, by omega⟩ = (r : EReal))
    (ht : ∀ k : Fin 8, ∃ r : ℝ, W ⟨128 + k, by omega⟩ = (r : EReal)) :
    Like (hidTable x ep ef ed wl bl wi bi W bf) (hidJoin x ep ef ed wl bl wi bi W bf) := by
  obtain ⟨a, ha⟩ := h1
  obtain ⟨b, hb⟩ := h3
  have hl' := like_affine a wl bl _ hl
  have hi' := like_affine b wi bi _ hi
  have hdir := dir_share (dirRow (x 4)) (fun d => ∑ k : Fin 8, ed d k * W ⟨128 + k, by omega⟩) (real_sum_mul _ _ hd ht)
  unfold hidTable hidJoin
  rw [ha, hb]
  rw [← hdir]
  generalize (∑ k : Fin 32, ep (protoRow (x 0)) k * W ⟨k, by omega⟩) = A
  generalize (∑ k : Fin 32, ef (flagsRow (x 2)) k * W ⟨64 + k, by omega⟩) = C
  generalize (∑ k : Fin 8, ed 0 k * W ⟨128 + k, by omega⟩) = t0
  generalize (((dirRow (x 4)).val : ℝ) : EReal) * (_ - t0) = D
  refine (Like.of_eq ?_).trans ((((((Like.refl A).add hl').add (Like.refl C)).add hi').add (Like.refl (D + t0))).add (Like.refl bf))
  abel

end

end Cert.Arith
-- ==== Proof.Row.lean ====
module

public import proofs.«01_k».proof.Proof.Data
public import proofs.«01_k».proof.Proof.Hidden
public import Idealize.ShloMosaic.Lib.Pipeline.ValueKit.Geometry
public import Idealize.ShloMosaic.Lib.Pointwise

@[expose] public section

/-! What the second kernel computes of one row of its block, and what the first leaves in the table's rows. -/

namespace Cert.KernelIdeal.Work

open Idealize.ShloMosaic Cert.KernelIdeal Cert.KernelIdeal.Gen Cert.Arith

local notation "𝔽" => Idealize.ShloMosaic.Ideal

/-- A row of the block before its layer norm, from the table `T`. -/
noncomputable def hrow (x : Fin 5 → EReal) (T : Fin 384 → Fin 256 → EReal) (o : Fin 256) : EReal :=
  (T ⟨(protoRow (x 0)).val, by omega⟩ o + T ⟨256 + (flagsRow (x 2)).val, by omega⟩ o
    + x 1 * T 320 o + x 3 * T 321 o + (((dirRow (x 4)).val : ℝ) : EReal) * T 322 o) + T 323 o

/-- The row times the table, and the length's share. -/
theorem pay4_at (xb : Vec 𝔽 S128x8x5 .f32) (T : Vec 𝔽 S384x256 .f32) (r : Fin 128) (s : Fin 8) (o : Fin 256) :
    k1_pay4 xb T (ix3 r s o)
      = (T (ix2 ⟨(protoRow (xb (ix3 r s 0))).val, by omega⟩ o) + T (ix2 ⟨256 + (flagsRow (xb (ix3 r s 2))).val, by omega⟩ o))
        + xb (ix3 r s 1) * T (ix2 320 o) := by
  pointwise [k1_pay4, k1_pay3]
  refine congrArg (· + _) ?_
  exact sum_two_rows (fun x => T (ix2 x o)) (pick 255#32 (xb (ix3 r s 0))) (pick 63#32 (xb (ix3 r s 2)))
    (pick_le (by decide) _) (pick_le (by decide) _)

/-- The direction's number. -/
theorem pay2_at (xb : Vec 𝔽 S128x8x5 .f32) (r : Fin 128) (s : Fin 8) :
    k1_pay2 xb (ix3 r s 0) = (((dirRow (xb (ix3 r s 4))).val : ℝ) : EReal) := by
  pointwise [k1_pay2]
  exact sitofp_pick _

/-- What the second kernel stores at a row and a column of its block: the layer norm of the row. -/
theorem pay_at (xb : Vec 𝔽 S128x8x5 .f32) (T : Vec 𝔽 S384x256 .f32) (g b : Vec 𝔽 S1x1x256 .f32)
    (r : Fin 128) (s : Fin 8) (o : Fin 256) :
    pay xb T g b (ix3 r s o)
      = lnMul eps (hrow (fun f => xb (ix3 r s f)) fun k o => T (ix2 k o)) (g (ix3 0 0 o)) (b (ix3 0 0 o)) o := by
  have h : ∀ o, k1_pay4 xb T (ix3 r s o) + xb (ix3 r s 3) * T (ix2 321 o) + k1_pay2 xb (ix3 r s 0) * T (ix2 322 o)
      + T (ix2 323 o) = hrow (fun f => xb (ix3 r s f)) (fun k o => T (ix2 k o)) o := fun o => by
    rw [pay4_at, pay2_at]; rfl
  unfold pay
  generalize k1_pay4 xb T = v42 at h ⊢
  generalize k1_pay2 xb = v21 at h ⊢
  pointwise [k1_pay1, k1_pay3]
  simp only [h, ofBits_eps, ofBits_256]
  rfl

section
variable (ep : Vec 𝔽 S256x32 .f32) (ef : Vec 𝔽 S64x32 .f32) (ed : Vec 𝔽 S2x8 .f32) (wl bl wi bi : Vec 𝔽 S1x32 .f32)
  (wf : Vec 𝔽 S136x256 .f32) (bf : Vec 𝔽 S1x256 .f32)

/-- A row of the table from 320 on is a row of the piece stored last. -/
theorem tab_tail (k : Fin 64) (o : Fin 256) (i : Fin 384) (hi : i.val = 320 + k.val) :
    tab ep ef ed wl bl wi bi wf bf (ix2 i o)
      = k0_pay1 (k0_pay2 wf) (k0_pay5 wf wl) (k0_pay6 wf wi) (k0_pay7 wf ed) (k0_pay8 wf bf bl) (k0_pay9 bi) (ix2 k o) := by
  have e : (ix2 i o : S384x256.Idx)
      = (Rect.unit (s := S384x256) ![320, 0] S64x256.size inb_S384x256_S64x256_320_0).emb (ix2 k o) := by
    funext a; apply Fin.ext
    rw [ValueKit.rect_emb_unit_val]
    match a with
    | 0 => exact hi
    | 1 => exact (Nat.zero_add _).symm
  rw [e]
  exact View.canon_cons_emb _ _ _ _

/-- A row of the table from 256 to 319 is a row of the flags' piece. -/
theorem tab_flags (k : Fin 64) (o : Fin 256) (i : Fin 384) (hi : i.val = 256 + k.val) :
    tab ep ef ed wl bl wi bi wf bf (ix2 i o) = k0_pay4 wf ef (ix2 k o) := by
  have e : (ix2 i o : S384x256.Idx)
      = (Rect.unit (s := S384x256) ![256, 0] S64x256.size inb_S384x256_S64x256_256_0).emb (ix2 k o) := by
    funext a; apply Fin.ext
    rw [ValueKit.rect_emb_unit_val]
    match a with
    | 0 => exact hi
    | 1 => exact (Nat.zero_add _).symm
  unfold tab pieces
  rw [View.canon_cons_of_not_mem, e]
  · exact View.canon_cons_emb _ _ _ _
  · rw [Rect.mem_set_unit]
    intro h
    have h0 : 320 ≤ i.val := (h 0).1
    omega

/-- A row of the table under 256 is a row of the protocols' piece. -/
theorem tab_proto (k : Fin 256) (o : Fin 256) (i : Fin 384) (hi : i.val = k.val) :
    tab ep ef ed wl bl wi bi wf bf (ix2 i o) = k0_pay3 wf ep (ix2 k o) := by
  have e : (ix2 i o : S384x256.Idx)
      = (Rect.unit (s := S384x256) ![0, 0] S256x256.size inb_S384x256_S256x256_0_0).emb (ix2 k o) := by
    funext a; apply Fin.ext
    rw [ValueKit.rect_emb_unit_val]
    match a with
    | 0 => exact hi.trans (Nat.zero_add _).symm
    | 1 => exact (Nat.zero_add _).symm
  unfold tab pieces
  rw [View.canon_cons_of_not_mem, View.canon_cons_of_not_mem, e]
  · exact View.canon_cons_emb _ _ _ _
  · rw [Rect.mem_set_unit]
    intro h
    have h0 : 256 ≤ i.val := (h 0).1
    omega
  · rw [Rect.mem_set_unit]
    intro h
    have h0 : 320 ≤ i.val := (h 0).1
    omega

/-- A row before its layer norm, from the table the first kernel leaves: the sums over the operands. -/
theorem hrow_tab (x : Fin 5 → EReal) (o : Fin 256) :
    hrow x (fun k o => tab ep ef ed wl bl wi bi wf bf (ix2 k o)) o
      = hidTable x (fun r k => ep (ix2 r k)) (fun r k => ef (ix2 r k)) (fun r k => ed (ix2 r k)) (fun k => wl (ix2 0 k))
          (fun k => bl (ix2 0 k)) (fun k => wi (ix2 0 k)) (fun k => bi (ix2 0 k)) (fun k => wf (ix2 k o)) (bf (ix2 0 o)) := by
  unfold hrow hidTable
  beta_reduce
  rw [tab_proto (k := protoRow (x 0)) (hi := rfl), tab_flags (k := flagsRow (x 2)) (hi := rfl),
    tab_tail (k := 0) (i := 320) (hi := rfl), tab_tail (k := 1) (i := 321) (hi := rfl),
    tab_tail (k := 2) (i := 322) (hi := rfl), tab_tail (k := 3) (i := 323) (hi := rfl)]
  pointwise [k0_pay1, k0_pay2, k0_pay3, k0_pay4, k0_pay5, k0_pay6, k0_pay7, k0_pay8, k0_pay9]

end

end Cert.KernelIdeal.Work
-- ==== Proof.Out.lean ====
module

public import proofs.«01_k».proof.Proof.Run
public import proofs.«01_k».proof.Proof.Row
public import Idealize.ShloMosaic.Lib.Claim

@[expose] public section

/-! What the kernel's result holds at the end of the run, index by index, of the launch memory. -/

noncomputable section

namespace Cert.KernelIdeal.Work

open Idealize.ShloMosaic Cert.KernelIdeal Cert.KernelIdeal.Gen Cert.Arith
open Idealize.ShloMosaic.TcCoe
open Idealize.ShloMosaic.Pipeline (Dat RDat)

local notation "𝔽" => Idealize.ShloMosaic.Ideal

variable (m : (ℓ : Loc nD τ sig) → Buf (Elt 𝔽) ℓ)

/-- The result, of the arrays the second kernel finds. -/
def outAt (X : Vec 𝔽 S16384x50x5 .f32) (T : Vec 𝔽 S384x256 .f32) (g b : Vec 𝔽 S1x1x256 .f32) : Vec 𝔽 S16384x50x256 .f32 :=
  fun i => lnMul eps (hrow (fun f => X (ix3 (i 0) (i 1) f)) fun k o => T (ix2 k o)) (g (ix3 0 0 (i 2))) (b (ix3 0 0 (i 2))) (i 2)

/-- Where a block of the input starts. -/
theorem index1_0 (t : Fin grid1.N) : win1_0.index t = ![(grid1.coords t 0).val, (grid1.coords t 1).val, 0] :=
  (by decide +kernel : ∀ t : Fin grid1.N, win1_0.index t = ![(grid1.coords t 0).val, (grid1.coords t 1).val, 0]) t

/-- Where a block of the result starts. -/
theorem index1_4 (t : Fin grid1.N) : win1_4.index t = ![(grid1.coords t 0).val, (grid1.coords t 1).val, 0] :=
  (by decide +kernel : ∀ t : Fin grid1.N, win1_4.index t = ![(grid1.coords t 0).val, (grid1.coords t 1).val, 0]) t

/-- The input block read at a row the result's block has inside its array: the input's own row. -/
theorem fill_at (c : Dev nD) (t : Fin cfg1.N) (d : Vec 𝔽 S128x8x5 .f32) (y : (win1_4.xblock (grid1.coords t)).Idx) (f : Fin 5)
    (j : S128x8x5.Idx) (h0 : (j 0).val = (y 0).val) (h1 : (j 1).val = (y 1).val) (h2 : (j 2).val = f.val) (i : S16384x50x5.Idx)
    (i0 : (i 0).val = ((win1_4.blk t).view.emb y 0).val) (i1 : (i 1).val = ((win1_4.blk t).view.emb y 1).val) (i2 : (i 2).val = f.val) :
    win1_0.fill (grid1.coords t) d (xblk m c t) j = W3 m c main_arg0 i := by
  have hm : win1_0.moved (grid1.coords t) j = true := by
    refine (win1_0.moved_iff _ j).mpr fun a => ?_
    match a with
    | ⟨0, _⟩ => exact h0 ▸ (y 0).isLt
    | ⟨1, _⟩ => exact h1 ▸ (y 1).isLt
    | ⟨2, _⟩ => exact h2 ▸ f.isLt
  unfold Pipeline.Window.fill
  rw [dif_pos hm]
  unfold xblk
  refine congrArg (W3 m c main_arg0) ?_
  have e0 := index1_0
  have e4 := index1_4
  funext a
  apply Fin.ext
  match a with
  | ⟨0, _⟩ => rw [show (⟨0, _⟩ : Fin 3) = 0 from rfl, i0]; blk_simp [e0, e4]; dsimp only; omega
  | ⟨1, _⟩ => rw [show (⟨1, _⟩ : Fin 3) = 1 from rfl, i1]; blk_simp [e0, e4]; dsimp only; omega
  | ⟨2, _⟩ => rw [show (⟨2, _⟩ : Fin 3) = 2 from rfl, i2]; blk_simp [e0, e4]; dsimp only; omega

/-- The result's array under exact data that leave in each of its blocks what the body does, however the input block is
    filled out past the array's end. -/
theorem arr_exact (c : Dev nD) (dat : Dat τ (Elt 𝔽) Unit ℕ (UR sig nD τ) ℕ cfg1 c)
    (h : ∀ t : Fin cfg1.N, Rel m c (4 : Fin 5) t (dat.after (4 : Fin 5) t)) :
    dat.arrAt (4 : Fin 5) cfg1.N = outAt (W3 m c main_arg0) (tabIn m c) (gamIn m c) (betIn m c) := by
  refine dat.arrAt_eq_of_covers (4 : Fin 5) _ (by decide +kernel) fun t hf y => ?_
  obtain ⟨d, hd⟩ := h t
  blk_simp
  rw [hd]
  have e4 := index1_4
  have ho : (win1_4.blk t).view.emb y (2 : Fin 3) = (win1_4.xinj (grid1.coords t) y) (2 : Fin 3) :=
    Fin.ext (by blk_simp [e4])
  have hx : win1_4.xinj (grid1.coords t) y = (ix3 ((win1_4.xinj (grid1.coords t) y) (0 : Fin 3) : Fin 128)
      ((win1_4.xinj (grid1.coords t) y) (1 : Fin 3) : Fin 8) ((win1_4.xinj (grid1.coords t) y) (2 : Fin 3) : Fin 256)) := by
    funext a
    match a with
    | ⟨0, _⟩ => rfl
    | ⟨1, _⟩ => rfl
    | ⟨2, _⟩ => rfl
  refine (congrArg _ hx).trans ((pay_at _ _ _ _ _ _ _).trans ?_)
  unfold outAt
  rw [ho]
  refine congrArg (fun x => lnMul eps (hrow x _) _ _ _) (funext fun f => ?_)
  exact fill_at m c t d y f _ rfl rfl rfl _ rfl rfl rfl

/-- The result's array after the run, whatever a clipped fetch left past the array's end. -/
theorem arr_out (c : Dev nD) (n : ℕ) (hn : n = cfg1.N) (G : Vec 𝔽 S16384x50x256 .f32)
    (h : (rdats m 1 c).ArrAt (4 : Fin 5) n G) : G = outAt (W3 m c main_arg0) (tabIn m c) (gamIn m c) (betIn m c) := by
  obtain ⟨X, hX, hA⟩ := RDat.ArrAt.exists_exact h
  have e := hA (Function.update (fun _ _ _ => Classical.arbitrary _) (4 : Fin 5) X) fun u _ _ => by rw [Function.update_self]
  rw [e]
  subst hn
  refine arr_exact m c _ fun t => ?_
  have h4 := (dat1 m c).toRRel_leaves rfl (hX t t.isLt (flush1_4 t))
  rw [RDat.withAfter_after, Function.update_self]
  exact h4

/-! ## The arrays the two kernels find, of the launch memory -/

/-- What the first kernel finds in `main_v0`: the fusion weight, transposed. -/
theorem W1_v0 (c : Dev nD) (k : Fin 136) (o : Fin 256) :
    (W1 m c main_v0 : Vec 𝔽 S136x256 .f32) (ix2 k o) = (m ((c : Thread nD τ).loc main_arg8)) (ix2 o k) := by
  rw [W1_eq]
  unfold V1
  entry_read
  pointwise []

/-- What the first kernel finds in `main_v1`: the length weight, as a row. -/
theorem W1_v1 (c : Dev nD) (k : Fin 32) :
    (W1 m c main_v1 : Vec 𝔽 S1x32 .f32) (ix2 0 k) = (m ((c : Thread nD τ).loc main_arg4)) (ix2 k 0) := by
  rw [W1_eq]
  unfold V1
  entry_read
  pointwise []

/-- What the first kernel finds in `main_v2`: the length bias, as a row. -/
theorem W1_v2 (c : Dev nD) (k : Fin 32) :
    (W1 m c main_v2 : Vec 𝔽 S1x32 .f32) (ix2 0 k) = (m ((c : Thread nD τ).loc main_arg5)) (ix1 k) := by
  rw [W1_eq]
  unfold V1
  entry_read
  pointwise []

/-- What the first kernel finds in `main_v3`: the inter-arrival weight, as a row. -/
theorem W1_v3 (c : Dev nD) (k : Fin 32) :
    (W1 m c main_v3 : Vec 𝔽 S1x32 .f32) (ix2 0 k) = (m ((c : Thread nD τ).loc main_arg6)) (ix2 k 0) := by
  rw [W1_eq]
  unfold V1
  entry_read
  pointwise []

/-- What the first kernel finds in `main_v4`: the inter-arrival bias, as a row. -/
theorem W1_v4 (c : Dev nD) (k : Fin 32) :
    (W1 m c main_v4 : Vec 𝔽 S1x32 .f32) (ix2 0 k) = (m ((c : Thread nD τ).loc main_arg7)) (ix1 k) := by
  rw [W1_eq]
  unfold V1
  entry_read
  pointwise []

/-- What the first kernel finds in `main_v5`: the fusion bias, as a row. -/
theorem W1_v5 (c : Dev nD) (o : Fin 256) :
    (W1 m c main_v5 : Vec 𝔽 S1x256 .f32) (ix2 0 o) = (m ((c : Thread nD τ).loc main_arg9)) (ix1 o) := by
  rw [W1_eq]
  unfold V1
  entry_read
  pointwise []

/-- What the second kernel finds in `main_v7`: the layer norm's weight. -/
theorem gamIn_at (c : Dev nD) (o : Fin 256) : (gamIn m c) (ix3 0 0 o) = (m ((c : Thread nD τ).loc main_arg10)) (ix1 o) := by
  unfold gamIn
  rw [W3_eq]
  unfold V3
  entry_read
  rw [show V2 m (outs m) c main_arg10 = m ((c : Thread nD τ).loc main_arg10) from
    (V2_of m (outs m) c main_arg10 (by decide)).trans (V1_of m c main_arg10 (by decide))]
  pointwise []

/-- What the second kernel finds in `main_v8`: the layer norm's bias. -/
theorem betIn_at (c : Dev nD) (o : Fin 256) : (betIn m c) (ix3 0 0 o) = (m ((c : Thread nD τ).loc main_arg11)) (ix1 o) := by
  unfold betIn
  rw [W3_eq]
  unfold V3
  entry_read
  rw [show V2 m (outs m) c main_arg11 = m ((c : Thread nD τ).loc main_arg11) from
    (V2_of m (outs m) c main_arg11 (by decide)).trans (V1_of m c main_arg11 (by decide))]
  pointwise []

/-- The second kernel finds the table the first left. -/
theorem tabIn_eq (c : Dev nD) : tabIn m c = table m c := by
  unfold tabIn
  rw [W3_eq, ← W2_v6, W2_eq]
  exact V3_of m (outs m) c main_v6 (by decide)

/-- The arguments the first kernel reads directly are the launch's. -/
theorem W1_arg (c : Dev nD) (b : Ref sig .tc) (hb : b ∈ argRefs) : W1 m c b = m ((c : Thread nD τ).loc b) := by
  have h : ∀ b ∈ argRefs, b ∉ hostOps0_W := by decide
  rw [W1_eq]
  exact (V1_of m c b (h b hb)).trans rfl

/-- The result of the launch memory: each row through the table, then the layer norm. -/
def result (c : Dev nD) (b : Fin 16384) (l : Fin 50) (o : Fin 256) : EReal :=
  lnMul eps (fun o' => hidTable (fun f => (m ((c : Thread nD τ).loc main_arg0)) (ix3 b l f))
      (fun r k => (m ((c : Thread nD τ).loc main_arg1)) (ix2 r k)) (fun r k => (m ((c : Thread nD τ).loc main_arg2)) (ix2 r k))
      (fun r k => (m ((c : Thread nD τ).loc main_arg3)) (ix2 r k))
      (fun k => (m ((c : Thread nD τ).loc main_arg4)) (ix2 k 0)) (fun k => (m ((c : Thread nD τ).loc main_arg5)) (ix1 k))
      (fun k => (m ((c : Thread nD τ).loc main_arg6)) (ix2 k 0)) (fun k => (m ((c : Thread nD τ).loc main_arg7)) (ix1 k))
      (fun k => (m ((c : Thread nD τ).loc main_arg8)) (ix2 o' k)) ((m ((c : Thread nD τ).loc main_arg9)) (ix1 o')))
    ((m ((c : Thread nD τ).loc main_arg10)) (ix1 o)) ((m ((c : Thread nD τ).loc main_arg11)) (ix1 o)) o

/-- A final memory has the result in the kernel's result array. -/
theorem final_result (c : Dev nD) (n : ℕ) (hn : n = cfg1.N) (s : MemSt nD τ sig (Elt 𝔽)) (h : Final m c n s)
    (b : Fin 16384) (l : Fin 50) (o : Fin 256) :
    (s.mem ((c : Thread nD τ).loc main_v9)) (ix3 b l o) = result m c b l o := by
  rw [arr_out m c n hn _ h.2]
  show lnMul eps (hrow (fun f => W3 m c main_arg0 (ix3 b l f)) fun k o => tabIn m c (ix2 k o)) (gamIn m c (ix3 0 0 o))
    (betIn m c (ix3 0 0 o)) o = _
  unfold result
  rw [gamIn_at, betIn_at, tabIn_eq, W3_arg m c main_arg0 (by decide)]
  refine congrArg (fun h => lnMul eps h _ _ _) (funext fun o' => ?_)
  unfold table
  refine (hrow_tab _ _ _ _ _ _ _ _ _ _ o').trans ?_
  rw [W1_arg m c main_arg1 (by decide), W1_arg m c main_arg2 (by decide), W1_arg m c main_arg3 (by decide)]
  exact congr (congr (congr (congr (congr (congrArg (hidTable _ _ _ _) (funext fun k => W1_v1 m c k))
    (funext fun k => W1_v2 m c k)) (funext fun k => W1_v3 m c k)) (funext fun k => W1_v4 m c k))
    (funext fun k => W1_v0 m c k o')) (W1_v5 m c o')

end Cert.KernelIdeal.Work
-- ==== Proof.Gather.lean ====
module

public import Idealize.ShloMosaic.Lib.ValueIdx
public import Idealize.ShloMosaic.Lib.Pointwise

@[expose] public section

/-! The rows of a table picked by a plane of row numbers, read at an index. -/

namespace Cert.Arith

open Idealize.ShloMosaic

section
variable {α : Type} {N C A B : Nat}

/-- The dimension numbers of picking, for each place of a plane, the row of a table that the place's number names. -/
abbrev rowsOf (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Where the number at a place is a row's, the row itself is picked there. -/
theorem gather_rows (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ 32) (a : Fin A) (b : Fin B) (k : Fin C) (r : Fin N)
    (hr : (idx (ix3 a b 0)).toInt = r.val) :
    Host.gather (rowsOf N C A B wf) x idx (ix3 a b k) = x (ix2 r k) := by
  have h0 : (rowsOf N C A B wf).siIdx (ix3 a b k) ⟨List.idxOf (0 : Fin 2) (rowsOf N C A B wf).startIndexMap,
      List.idxOf_lt_length_iff.2 (List.mem_singleton.mpr rfl)⟩ = ix3 a b 0 := by
    funext i
    match i with
    | ⟨0, _⟩ => rfl
    | ⟨1, _⟩ => rfl
    | ⟨2, _⟩ => rfl
  have hs0 : (rowsOf N C A B wf).start (ix3 a b k) idx 0 = r.val := by
    unfold GatherDims.start
    rw [dif_pos (show (0 : Fin 2) ∈ (rowsOf N C A B wf).startIndexMap from List.mem_singleton.mpr rfl), h0, hr]
    show min (r.val : ℤ).toNat (N - 1) = r.val
    have := r.isLt
    omega
  have hs1 : (rowsOf N C A B wf).start (ix3 a b k) idx 1 = 0 := by
    unfold GatherDims.start
    rw [dif_neg]
    intro h
    exact absurd (congrArg Fin.val (List.mem_singleton.mp h)) Nat.one_ne_zero
  refine congrArg x (funext fun i => Fin.ext ?_)
  show (rowsOf N C A B wf).start (ix3 a b k) idx i + (rowsOf N C A B wf).batchCoord (ix3 a b k) i
    + (rowsOf N C A B wf).offCoord (ix3 a b k) i = _
  rw [GatherDims.batchCoord_eq_zero _ _ _ List.not_mem_nil]
  match i with
  | ⟨0, _⟩ =>
    refine (congrArg₂ (fun p q => p + 0 + q) hs0 (GatherDims.offCoord_eq_zero _ _ _ fun h =>
      ((GatherDims.mem_sKept _ _).mp h).1 (List.mem_singleton.mpr rfl))).trans rfl
  | ⟨1, _⟩ => exact (congrArg (fun p => p + 0 + _) hs1).trans ((Nat.zero_add _).trans rfl)

end

end Cert.Arith
-- ==== Proof.Ref.lean ====
module

public import proofs.«01_k».proof.Proof.Gen.ReferenceIdeal.Run
public import proofs.«01_k».proof.Proof.Hidden
public import proofs.«01_k».proof.Proof.Gather
public import Idealize.ShloMosaic.Lib.Pointwise

@[expose] public section

/-! What the reference leaves in its result, index by index, of its arguments. -/

noncomputable section

namespace Cert.ReferenceIdeal.Work

open Idealize.ShloMosaic Cert.ReferenceIdeal Cert.ReferenceIdeal.Gen Cert.Arith
open Idealize.ShloMosaic.TcCoe

local notation "𝔽" => Idealize.ShloMosaic.Ideal

/-- A plane of features as row numbers: converted to integers, then clamped to `[0, hi]`. -/
def clipped (hi : BitVec 32) (v : Vec 𝔽 S16384x50 .f32) : IVec S16384x50 32 :=
  minsi (broadcastInDim S16384x50 ![] bcast_S_S16384x50 (id (constantI S_ 32 hi)))
    (maxsi (broadcastInDim S16384x50 ![] bcast_S_S16384x50 (id (constantI S_ 32 0#32))) (fptosi (F := 𝔽) (φ := .f32) 32 v))

/-- The row numbers, a negative one counted from the end of a table of `n` rows. -/
def wrapped (n : BitVec 32) (p : IVec S16384x50 32) : IVec S16384x50x1 32 :=
  broadcastInDim S16384x50x1 ![0, 1] bcast_S16384x50_S16384x50x1_0_1
    (select (cmpi .slt p (broadcastInDim S16384x50 ![] bcast_S_S16384x50 (constantI S_ 32 0#32)))
      (addi p (broadcastInDim S16384x50 ![] bcast_S_S16384x50 (constantI S_ 32 n))) p)

/-- Whether a row number is one of a table whose last row is `hi`. -/
def inside (hi : BitVec 32) (p : IVec S16384x50x1 32) : IVec S16384x50 1 :=
  Host.reduce IntOp.andi (andi (cmpi .sge p (broadcastInDim S16384x50x1 ![] bcast_S_S16384x50x1 (constantI S_ 32 0#32)))
      (cmpi .sle p (broadcastInDim S16384x50x1 ![0, 1, 2] bcast_S1x1x1_S16384x50x1_0_1_2
        (broadcastInDim S1x1x1 ![2] bcast_S1_S1x1x1_2 (constantI S1 32 hi)))))
    (constantI S_ 1 1#1) reducesTo_S16384x50x1_S16384x50_d2 h_S_

/-- A clamped feature is the feature's row number. -/
theorem clipped_at (hi : BitVec 32) (v : Vec 𝔽 S16384x50 .f32) (b : Fin 16384) (l : Fin 50) :
    clipped hi v (ix2 b l) = pick hi (v (ix2 b l)) := by
  pointwise [clipped]
  rfl

/-- A row number below `2 ^ 31` stays what it is. -/
theorem wrapped_at (n : BitVec 32) (p : IVec S16384x50 32) (b : Fin 16384) (l : Fin 50) (h : (p (ix2 b l)).toNat < 2 ^ 31) :
    wrapped n p (ix3 b l 0) = p (ix2 b l) := by
  pointwise [wrapped]
  generalize p (ix2 b l) = w at h ⊢
  have hs : w.slt 0#32 = false := by
    rw [BitVec.slt_eq_decide, BitVec.toInt_eq_toNat_of_lt (by omega)]
    exact decide_eq_false (not_lt.mpr (Int.natCast_nonneg _))
  simp only [IntOp.cmpi, hs]
  rfl

/-- A row number between zero and the last row is a row's. -/
theorem inside_at (hi : BitVec 32) (p : IVec S16384x50x1 32) (b : Fin 16384) (l : Fin 50) (hh : hi.toNat < 2 ^ 31)
    (h : (p (ix3 b l 0)).toNat ≤ hi.toNat) : inside hi p (ix2 b l) = 1#1 := by
  pointwise [inside]
  rw [Finset.univ_unique, Finset.fold_singleton]
  show IntOp.andi (IntOp.andi (IntOp.cmpi .sge (p (ix3 b l 0)) 0#32) (IntOp.cmpi .sle (p (ix3 b l 0)) hi)) 1#1 = 1#1
  generalize p (ix3 b l 0) = w at h ⊢
  have h0 : (0#32).sle w = true := by
    rw [BitVec.sle_eq_decide, BitVec.toInt_eq_toNat_of_lt (x := w) (by omega)]
    exact decide_eq_true (Int.natCast_nonneg _)
  have h1 : w.sle hi = true := by
    rw [BitVec.sle_eq_decide, BitVec.toInt_eq_toNat_of_lt (by omega), BitVec.toInt_eq_toNat_of_lt (by omega)]
    exact decide_eq_true (Int.ofNat_le.mpr h)
  simp only [IntOp.cmpi, h0, h1]
  rfl

/-- The rows of a table that a plane of row numbers picks, where a number is a row's. -/
def taken {N C : ℕ} (n hi : BitVec 32) (g : GatherDims ⟨2, ![N, C]⟩ S16384x50x1 ⟨3, ![16384, 50, C]⟩)
    (h1 : S16384x50.BroadcastsInDim ⟨3, ![16384, 50, C]⟩ ![0, 1]) (h2 : S_.BroadcastsInDim ⟨3, ![16384, 50, C]⟩ ![])
    (T : Vec 𝔽 ⟨2, ![N, C]⟩ .f32) (p : IVec S16384x50 32) : Vec 𝔽 ⟨3, ![16384, 50, C]⟩ .f32 :=
  select (broadcastInDim ⟨3, ![16384, 50, C]⟩ ![0, 1] h1 (inside hi (wrapped n p))) (Host.gather g T (wrapped n p))
    (broadcastInDim ⟨3, ![16384, 50, C]⟩ ![] h2 (constant (F := 𝔽) S_ .f32 0x7FC00000#32))

/-- Of clamped features the rows picked are those of the features. -/
theorem taken_at {N C : ℕ} (n hi : BitVec 32) (wf) (h1) (h2) (T : Vec 𝔽 ⟨2, ![N, C]⟩ .f32) (v : Vec 𝔽 S16384x50 .f32)
    (hh : hi.toNat < 2 ^ 31) (hn : hi.toNat < N) (b : Fin 16384) (l : Fin 50) (k : Fin C) :
    taken n hi (rowsOf N C 16384 50 wf) h1 h2 T (clipped hi v) (ix3 b l k) = T (ix2 (row N hi hh hn (v (ix2 b l))) k) := by
  have hp := pick_le hh (v (ix2 b l))
  have hw : wrapped n (clipped hi v) (ix3 b l 0) = pick hi (v (ix2 b l)) := by
    rw [wrapped_at n _ b l (by rw [clipped_at]; omega), clipped_at]
  have hi1 := inside_at hi (wrapped n (clipped hi v)) b l hh (by rw [hw]; exact hp)
  have hg := gather_rows wf T (wrapped n (clipped hi v)) b l k (row N hi hh hn (v (ix2 b l)))
    (by rw [hw, BitVec.toInt_eq_toNat_of_lt (by omega)]; rfl)
  pointwise [taken]
  rw [hi1, hg]
  rfl

/-- A feature projected onto 32 values. -/
def projected (v : Vec 𝔽 S16384x50x1 .f32) (w : Vec 𝔽 S32x1 .f32) (a : Vec 𝔽 S32 .f32) : Vec 𝔽 S16384x50x32 .f32 :=
  addf (F := 𝔽) (φ := .f32) (Host.dotGeneral (F := 𝔽) (φ₁ := .f32) (φ₂ := .f32) dot_S16384x50x1_S1x32_S16384x50x32_2_0_01_1_n_n none v
      (transpose S1x32 [1, 0] w transposes_S32x1_S1x32_1_0))
    (broadcastInDim S16384x50x32 ![0, 1, 2] bcast_S1x1x32_S16384x50x32_0_1_2 (broadcastInDim S1x1x32 ![2] bcast_S32_S1x1x32_2 a))

/-- A projected feature: the feature times the weight, plus the bias. -/
theorem projected_at (v : Vec 𝔽 S16384x50x1 .f32) (w : Vec 𝔽 S32x1 .f32) (a : Vec 𝔽 S32 .f32) (b : Fin 16384) (l : Fin 50) (k : Fin 32) :
    projected v w a (ix3 b l k) = v (ix3 b l 0) * w (ix2 k 0) + a (ix1 k) := by
  pointwise [projected]
  rw [Fin.sum_univ_one]

/-- The layer norm of every row of a plane. -/
def normed (h : Vec 𝔽 S16384x50x256 .f32) (g a : Vec 𝔽 S256 .f32) : Vec 𝔽 S16384x50x256 .f32 :=
  let d : Vec 𝔽 S16384x50x256 .f32 := subf (F := 𝔽) (φ := .f32) h (broadcastInDim S16384x50x256 ![0, 1, 2] bcast_S16384x50x1_S16384x50x256_0_1_2
    (Host.divf (F := 𝔽) (φ := .f32) (broadcastInDim S16384x50x1 ![0, 1] bcast_S16384x50_S16384x50x1_0_1
      (Host.reduceAdd (F := 𝔽) (φ := .f32) h (constant S_ .f32 0x00000000#32) reducesTo_S16384x50x256_S16384x50_d2 h_S_))
      (broadcastInDim S16384x50x1 ![] bcast_S_S16384x50x1 (constant (F := 𝔽) S_ .f32 0x43800000#32))))
  let n : Vec 𝔽 S_ .f32 := subf (F := 𝔽) (φ := .f32) (constant S_ .f32 0x43800000#32) (sitofp .f32 (constantI S_ 32 0#32))
  addf (F := 𝔽) (φ := .f32) (mulf (F := 𝔽) (φ := .f32) (Host.divf (F := 𝔽) (φ := .f32) d
    (broadcastInDim S16384x50x256 ![0, 1, 2] bcast_S16384x50x1_S16384x50x256_0_1_2
      (Host.sqrt (F := 𝔽) (φ := .f32) (addf (F := 𝔽) (φ := .f32)
        (select (broadcastInDim S16384x50x1 ![] bcast_S_S16384x50x1 (cmpf (F := 𝔽) (φ := .f32) .ogt n (constant S_ .f32 0x00000000#32)))
          (Host.divf (F := 𝔽) (φ := .f32) (broadcastInDim S16384x50x1 ![0, 1] bcast_S16384x50_S16384x50x1_0_1
            (Host.reduceAdd (F := 𝔽) (φ := .f32) (mulf (F := 𝔽) (φ := .f32) d d) (constant S_ .f32 0x00000000#32) reducesTo_S16384x50x256_S16384x50_d2 h_S_))
            (broadcastInDim S16384x50x1 ![] bcast_S_S16384x50x1 n))
          (broadcastInDim S16384x50x1 ![] bcast_S_S16384x50x1 (id (constant (F := 𝔽) S_ .f32 0x7FC00000#32))))
        (broadcastInDim S16384x50x1 ![] bcast_S_S16384x50x1 (constant S_ .f32 0x3727C5AC#32))))))
    (broadcastInDim S16384x50x256 ![0, 1, 2] bcast_S1x1x256_S16384x50x256_0_1_2 (broadcastInDim S1x1x256 ![2] bcast_S256_S1x1x256_2 g)))
    (broadcastInDim S16384x50x256 ![0, 1, 2] bcast_S1x1x256_S16384x50x256_0_1_2 (broadcastInDim S1x1x256 ![2] bcast_S256_S1x1x256_2 a))

/-- A value of the layer norm is its row's. -/
theorem normed_at (h : Vec 𝔽 S16384x50x256 .f32) (g a : Vec 𝔽 S256 .f32) (b : Fin 16384) (l : Fin 50) (o : Fin 256) :
    normed h g a (ix3 b l o) = lnDiv eps (fun o => h (ix3 b l o)) (g (ix1 o)) (a (ix1 o)) o := by
  unfold lnDiv var mean
  pointwise [normed]
  have hz : FloatOps.sitofp (F := 𝔽) .f32 0#32 = (0 : EReal) := by
    show ((((0#32 : BitVec 32).toInt : ℤ) : ℝ) : EReal) = 0
    simp
  have h0 : (0 : EReal) < ((256 : ℝ) : EReal) := by exact_mod_cast (by norm_num : (0 : ℝ) < 256)
  rw [hz, ofBits_256, ofBits_eps, sub_zero, if_pos h0]

/-- Five pieces of 32, 32, 32, 32 and 8 values, joined. -/
def join5 (p q r s : Vec 𝔽 S16384x50x32 .f32) (t : Vec 𝔽 S16384x50x8 .f32) : Vec 𝔽 S16384x50x136 .f32 :=
  concatenate S16384x50x136 2 [⟨S16384x50x32, p⟩, ⟨S16384x50x32, q⟩, ⟨S16384x50x32, r⟩, ⟨S16384x50x32, s⟩, ⟨S16384x50x8, t⟩]
    concatenates_S16384x50x32_S16384x50x32_S16384x50x32_S16384x50x32_S16384x50x8_S16384x50x136_d2

/-- Where each piece lies in the joined values. -/
theorem join5_at (p q r s : Vec 𝔽 S16384x50x32 .f32) (t : Vec 𝔽 S16384x50x8 .f32) (b : Fin 16384) (l : Fin 50) :
    (∀ k : Fin 32, join5 p q r s t (ix3 b l ⟨k, by omega⟩) = p (ix3 b l k))
    ∧ (∀ k : Fin 32, join5 p q r s t (ix3 b l ⟨32 + k, by omega⟩) = q (ix3 b l k))
    ∧ (∀ k : Fin 32, join5 p q r s t (ix3 b l ⟨64 + k, by omega⟩) = r (ix3 b l k))
    ∧ (∀ k : Fin 32, join5 p q r s t (ix3 b l ⟨96 + k, by omega⟩) = s (ix3 b l k))
    ∧ ∀ k : Fin 8, join5 p q r s t (ix3 b l ⟨128 + k, by omega⟩) = t (ix3 b l k) := by
  refine ⟨fun k => ?_, fun k => ?_, fun k => ?_, fun k => ?_, fun k => ?_⟩
  all_goals pointwise [join5]
  · rw [dif_neg (by omega), dif_neg (by omega), dif_pos (by omega)]
    exact congrArg (fun k => r (ix3 b l k)) (Fin.ext (by dsimp only; omega))
  · rw [dif_neg (by omega), dif_neg (by omega), dif_neg (by omega), dif_pos (by omega)]
    exact congrArg (fun k => s (ix3 b l k)) (Fin.ext (by dsimp only; omega))
  · rw [dif_neg (by omega), dif_neg (by omega), dif_neg (by omega), dif_neg (by omega)]
    exact congrArg (fun k => t (ix3 b l k)) (Fin.ext (by dsimp only; omega))

section
variable (x : Vec 𝔽 S16384x50x5 .f32) (ep : Vec 𝔽 S256x32 .f32) (ef : Vec 𝔽 S64x32 .f32) (ed : Vec 𝔽 S2x8 .f32)
  (wl : Vec 𝔽 S32x1 .f32) (bl : Vec 𝔽 S32 .f32) (wi : Vec 𝔽 S32x1 .f32) (bi : Vec 𝔽 S32 .f32)
  (wf : Vec 𝔽 S256x136 .f32) (bf : Vec 𝔽 S256 .f32)

/-- The protocol of every place. -/
def protoOf : Vec 𝔽 S16384x50 .f32 :=
  shapeCast _ (extractStridedSlice S16384x50x1 ![0, 0, 0] x slices_S16384x50x5_S16384x50x1_0_0_0) shapeCasts_S16384x50x1_S16384x50
/-- The flags of every place. -/
def flagsOf : Vec 𝔽 S16384x50 .f32 :=
  shapeCast _ (extractStridedSlice S16384x50x1 ![0, 0, 2] x slices_S16384x50x5_S16384x50x1_0_0_2) shapeCasts_S16384x50x1_S16384x50
/-- The direction of every place. -/
def dirOf : Vec 𝔽 S16384x50 .f32 :=
  shapeCast _ (extractStridedSlice S16384x50x1 ![0, 0, 4] x slices_S16384x50x5_S16384x50x1_0_0_4) shapeCasts_S16384x50x1_S16384x50

/-- The five embeddings, joined. -/
def joined : Vec 𝔽 S16384x50x136 .f32 :=
  join5 (taken 256#32 255#32 gather_S256x32_S16384x50x1_S16384x50x32_2_0_n_n_0_2_132 bcast_S16384x50_S16384x50x32_0_1
      bcast_S_S16384x50x32 ep (clipped 255#32 (protoOf x)))
    (projected (extractStridedSlice S16384x50x1 ![0, 0, 1] x slices_S16384x50x5_S16384x50x1_0_0_1) wl bl)
    (taken 64#32 63#32 gather_S64x32_S16384x50x1_S16384x50x32_2_0_n_n_0_2_132 bcast_S16384x50_S16384x50x32_0_1
      bcast_S_S16384x50x32 ef (clipped 63#32 (flagsOf x)))
    (projected (extractStridedSlice S16384x50x1 ![0, 0, 3] x slices_S16384x50x5_S16384x50x1_0_0_3) wi bi)
    (taken 2#32 1#32 gather_S2x8_S16384x50x1_S16384x50x8_2_0_n_n_0_2_18 bcast_S16384x50_S16384x50x8_0_1
      bcast_S_S16384x50x8 ed (clipped 1#32 (dirOf x)))

/-- The values before the layer norm. -/
def hidden : Vec 𝔽 S16384x50x256 .f32 :=
  addf (F := 𝔽) (φ := .f32) (Host.dotGeneral (F := 𝔽) (φ₁ := .f32) (φ₂ := .f32) dot_S16384x50x136_S136x256_S16384x50x256_2_0_01_1_n_n none
      (joined x ep ef ed wl bl wi bi) (transpose S136x256 [1, 0] wf transposes_S256x136_S136x256_1_0))
    (broadcastInDim S16384x50x256 ![0, 1, 2] bcast_S1x1x256_S16384x50x256_0_1_2 (broadcastInDim S1x1x256 ![2] bcast_S256_S1x1x256_2 bf))

/-- A joined embedding times the weights of one output: five sums. -/
theorem hidden_at (b : Fin 16384) (l : Fin 50) (o : Fin 256) :
    hidden x ep ef ed wl bl wi bi wf bf (ix3 b l o)
      = hidJoin (fun f => x (ix3 b l f)) (fun r k => ep (ix2 r k)) (fun r k => ef (ix2 r k)) (fun r k => ed (ix2 r k))
        (fun k => wl (ix2 k 0)) (fun k => bl (ix1 k)) (fun k => wi (ix2 k 0)) (fun k => bi (ix1 k)) (fun k => wf (ix2 o k)) (bf (ix1 o)) := by
  have e : hidden x ep ef ed wl bl wi bi wf bf (ix3 b l o)
      = (∑ k : Fin 136, joined x ep ef ed wl bl wi bi (ix3 b l k) * wf (ix2 o k)) + bf (ix1 o) := by
    unfold hidden
    generalize joined x ep ef ed wl bl wi bi = j
    pointwise []
  rw [e, sum_parts]
  have v0 : protoOf x (ix2 b l) = x (ix3 b l 0) := by pointwise [protoOf]
  have v1 : extractStridedSlice S16384x50x1 ![0, 0, 1] x slices_S16384x50x5_S16384x50x1_0_0_1 (ix3 b l 0) = x (ix3 b l 1) := by
    pointwise []
  have v2 : flagsOf x (ix2 b l) = x (ix3 b l 2) := by pointwise [flagsOf]
  have v3 : extractStridedSlice S16384x50x1 ![0, 0, 3] x slices_S16384x50x5_S16384x50x1_0_0_3 (ix3 b l 0) = x (ix3 b l 3) := by
    pointwise []
  have v4 : dirOf x (ix2 b l) = x (ix3 b l 4) := by pointwise [dirOf]
  have t0 : ∀ k, taken 256#32 255#32 gather_S256x32_S16384x50x1_S16384x50x32_2_0_n_n_0_2_132 bcast_S16384x50_S16384x50x32_0_1
      bcast_S_S16384x50x32 ep (clipped 255#32 (protoOf x)) (ix3 b l k) = ep (ix2 (protoRow (x (ix3 b l 0))) k) := fun k =>
    (taken_at 256#32 255#32 gather_S256x32_S16384x50x1_S16384x50x32_2_0_n_n_0_2_132.wf _ _ ep (protoOf x) (by decide) (by decide)
      b l k).trans (by rw [v0]; rfl)
  have t2 : ∀ k, taken 64#32 63#32 gather_S64x32_S16384x50x1_S16384x50x32_2_0_n_n_0_2_132 bcast_S16384x50_S16384x50x32_0_1
      bcast_S_S16384x50x32 ef (clipped 63#32 (flagsOf x)) (ix3 b l k) = ef (ix2 (flagsRow (x (ix3 b l 2))) k) := fun k =>
    (taken_at 64#32 63#32 gather_S64x32_S16384x50x1_S16384x50x32_2_0_n_n_0_2_132.wf _ _ ef (flagsOf x) (by decide) (by decide)
      b l k).trans (by rw [v2]; rfl)
  have t4 : ∀ k, taken 2#32 1#32 gather_S2x8_S16384x50x1_S16384x50x8_2_0_n_n_0_2_18 bcast_S16384x50_S16384x50x8_0_1
      bcast_S_S16384x50x8 ed (clipped 1#32 (dirOf x)) (ix3 b l k) = ed (ix2 (dirRow (x (ix3 b l 4))) k) := fun k =>
    (taken_at 2#32 1#32 gather_S2x8_S16384x50x1_S16384x50x8_2_0_n_n_0_2_18.wf _ _ ed (dirOf x) (by decide) (by decide)
      b l k).trans (by rw [v4]; rfl)
  unfold joined
  simp only [(join5_at _ _ _ _ _ b l).1, (join5_at _ _ _ _ _ b l).2.1, (join5_at _ _ _ _ _ b l).2.2.1,
    (join5_at _ _ _ _ _ b l).2.2.2.1, (join5_at _ _ _ _ _ b l).2.2.2.2, projected_at, v1, v3, t0, t2, t4]
  rfl

end

set_option maxRecDepth 16384 in
/-- The reference's result, of its arguments. -/
theorem result_eq (m : (ℓ : Loc nD τ sig) → Buf (Elt 𝔽) ℓ) (c : Dev nD) :
    Value.res_main_v50 m c = normed (hidden (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9))) (m ((c : Thread nD τ).loc main_arg10))
      (m ((c : Thread nD τ).loc main_arg11)) := by
  unfold Value.res_main_v50
  rfl

end Cert.ReferenceIdeal.Work
-- ==== Proof.Algebraic.lean ====
module

public import proofs.«01_k».proof.Proof.Frames
public import proofs.«01_k».proof.Proof.Out
public import proofs.«01_k».proof.Proof.Ref
public import Idealize.ShloMosaic.Lib.ReduceAll
public import Idealize.ShloMosaic.Lib.Affine

@[expose] public section

/-! The kernel and the reference leave equal results at extended reals. -/

set_option maxRecDepth 65536

noncomputable section

namespace Cert.Algebraic

open Idealize.ShloMosaic Idealize.ShloMosaic.TcCoe Idealize.SL.Sem
open Cert.Arith

local notation "𝔽" => Idealize.ShloMosaic.Ideal

section Precondition

open Cert.Pre_operands_finite

/-- An extended real whose absolute value is below infinity is a real number. -/
theorem real_of_abs_lt (x : EReal) (h : max x (-x) < ⊤) : ∃ r : ℝ, x = (r : EReal) := by
  induction x using EReal.rec with
  | bot => simp at h
  | coe r => exact ⟨r, rfl⟩
  | top => simp at h

/-- One comparison of an absolute value with infinity that came out true. -/
theorem real_of_olt (x : 𝔽 .f32)
    (h : FloatOps.cmpf .olt (FloatOps.hostAbsf x) (FloatOps.ofBits (F := 𝔽) .f32 0x7F800000#32) = 1#1) :
    ∃ r : ℝ, (x : EReal) = (r : EReal) := by
  have htop : Ideal.ofBits .f32 0x7F800000#32 = ⊤ := by simp [Ideal.ofBits, Ideal.ieee]
  refine real_of_abs_lt x ?_
  change Ideal.cmp .olt (max (x : EReal) (-(x : EReal))) (Ideal.ofBits .f32 0x7F800000#32) = 1#1 at h
  rw [htop] at h
  by_contra hn
  simp [Ideal.cmp, hn] at h

/-- An array all of whose absolute values compare below infinity holds real numbers. -/
theorem real_of_all {s : Shape} {axes : List (Fin s.rank)} (v : Vec 𝔽 s .f32) (hb : S_.BroadcastsInDim s (![] : Fin 0 → Fin s.rank))
    (init : IVec S_ 1) (h : s.ReducesTo axes S_) (hu : 0 < S_.numel) (j : S_.Idx)
    (e : Host.reduce IntOp.andi (cmpf .olt (Host.absf (F := 𝔽) (φ := .f32) v) (broadcastInDim s ![] hb (constant S_ .f32 0x7F800000#32))) init h hu j = 1#1)
    (i : s.Idx) : ∃ r : ℝ, (v i : EReal) = (r : EReal) := by
  haveI : Subsingleton S_.Idx := ⟨fun a b => funext fun d => d.elim0⟩
  exact real_of_olt (v i) (Host.reduce_andi_all _ init h hu j e i)

/-- What the precondition says: the two features that multiply a weight, the first direction, and the weights that meet a
    length, an interval or a direction are real numbers. -/
theorem reals [Facts] (x : Vec 𝔽 S16384x50x5 .f32) (ep : Vec 𝔽 S256x32 .f32) (ef : Vec 𝔽 S64x32 .f32) (ed : Vec 𝔽 S2x8 .f32)
    (wl : Vec 𝔽 S32x1 .f32) (bl : Vec 𝔽 S32 .f32) (wi : Vec 𝔽 S32x1 .f32) (bi : Vec 𝔽 S32 .f32) (W : Vec 𝔽 S256x136 .f32)
    (bf g b : Vec 𝔽 S256 .f32) (h : fn (F := 𝔽) x ep ef ed wl bl wi bi W bf g b = fun _ => 1#1) :
    (∀ b l, ∃ r : ℝ, (x (ix3 b l 1) : EReal) = (r : EReal)) ∧ (∀ b l, ∃ r : ℝ, (x (ix3 b l 3) : EReal) = (r : EReal))
      ∧ (∀ k, ∃ r : ℝ, (ed (ix2 0 k) : EReal) = (r : EReal))
      ∧ (∀ o (k : Fin 32), ∃ r : ℝ, (W (ix2 o ⟨32 + k, by omega⟩) : EReal) = (r : EReal))
      ∧ (∀ o (k : Fin 40), ∃ r : ℝ, (W (ix2 o ⟨96 + k, by omega⟩) : EReal) = (r : EReal)) := by
  have h0 := congrFun h (fun d => d.elim0)
  dsimp only [fn, fn_part1] at h0
  obtain ⟨h1, hi⟩ := IntOp.andi_eq_one.1 h0
  obtain ⟨h2, hl⟩ := IntOp.andi_eq_one.1 h1
  obtain ⟨h3, hd⟩ := IntOp.andi_eq_one.1 h2
  obtain ⟨hx, hy⟩ := IntOp.andi_eq_one.1 h3
  refine ⟨fun b l => ?_, fun b l => ?_, fun k => ?_, fun o k => ?_, fun o k => ?_⟩
  · have := real_of_all _ _ _ _ _ _ hx (ix2 b l)
    pointwise [] at this
    exact this
  · have := real_of_all _ _ _ _ _ _ hy (ix2 b l)
    pointwise [] at this
    exact this
  · have := real_of_all _ _ _ _ _ _ hd (ix1 k)
    pointwise [] at this
    exact this
  · have := real_of_all _ _ _ _ _ _ hl (ix2 o k)
    pointwise [] at this
    exact this
  · have := real_of_all _ _ _ _ _ _ hi (ix2 o k)
    pointwise [] at this
    exact this

end Precondition

/-- One element of the result: the kernel's, normalised over the table's rows by a reciprocal root, and the reference's,
    normalised over the joined row by a quotient, are equal where the operands named by the precondition are real. -/
theorem result_at (x : Vec 𝔽 Cert.ReferenceIdeal.S16384x50x5 .f32) (ep : Vec 𝔽 Cert.ReferenceIdeal.S256x32 .f32)
    (ef : Vec 𝔽 Cert.ReferenceIdeal.S64x32 .f32) (ed : Vec 𝔽 Cert.ReferenceIdeal.S2x8 .f32)
    (wl : Vec 𝔽 Cert.ReferenceIdeal.S32x1 .f32) (bl : Vec 𝔽 Cert.ReferenceIdeal.S32 .f32)
    (wi : Vec 𝔽 Cert.ReferenceIdeal.S32x1 .f32) (bi : Vec 𝔽 Cert.ReferenceIdeal.S32 .f32)
    (W : Vec 𝔽 Cert.ReferenceIdeal.S256x136 .f32) (bf g a : Vec 𝔽 Cert.ReferenceIdeal.S256 .f32)
    (h1 : ∀ b l, ∃ r : ℝ, (x (ix3 b l 1) : EReal) = (r : EReal)) (h3 : ∀ b l, ∃ r : ℝ, (x (ix3 b l 3) : EReal) = (r : EReal))
    (hd : ∀ k, ∃ r : ℝ, (ed (ix2 0 k) : EReal) = (r : EReal))
    (hl : ∀ o (k : Fin 32), ∃ r : ℝ, (W (ix2 o ⟨32 + k, by omega⟩) : EReal) = (r : EReal))
    (hi : ∀ o (k : Fin 40), ∃ r : ℝ, (W (ix2 o ⟨96 + k, by omega⟩) : EReal) = (r : EReal))
    (b : Fin 16384) (l : Fin 50) (o : Fin 256) :
    lnMul eps (fun o' => hidTable (fun f => x (ix3 b l f)) (fun r k => ep (ix2 r k)) (fun r k => ef (ix2 r k))
        (fun r k => ed (ix2 r k)) (fun k => wl (ix2 k 0)) (fun k => bl (ix1 k)) (fun k => wi (ix2 k 0)) (fun k => bi (ix1 k))
        (fun k => W (ix2 o' k)) (bf (ix1 o'))) (g (ix1 o)) (a (ix1 o)) o
      = Cert.ReferenceIdeal.Work.normed (Cert.ReferenceIdeal.Work.hidden x ep ef ed wl bl wi bi W bf) g a (ix3 b l o) := by
  rw [Cert.ReferenceIdeal.Work.normed_at, ← lnMul_eq_lnDiv eps_pos]
  refine lnMul_congr (fun o' => ?_) _ _ _
  rw [Cert.ReferenceIdeal.Work.hidden_at]
  exact like_hid (h1 b l) (h3 b l) hd (hl o') (fun k => hi o' ⟨k, by omega⟩)
    (fun k => by
      obtain ⟨r, hr⟩ := hi o' ⟨32 + k, by omega⟩
      exact ⟨r, by rw [← hr]; congr 2; apply Fin.ext; simp; omega⟩)

/-- The kernel and the reference, started from equal arguments that satisfy the precondition, end with equal results. -/
theorem algebraic : algebraic_KernelIdeal_ReferenceIdeal_pre_operands_finite (hKernelIdeal := Cert.KernelIdeal.Gen.facts)
    (hReferenceIdeal := Cert.ReferenceIdeal.Gen.facts) (hPre_operands_finite := Frames.preFacts) := by
  intro m g m' g' hpre hagree
  refine ⟨fun c => Cert.ReferenceIdeal.Value.res_main_v50 m' c, ?_, ?_⟩
  · refine θ_run_mono (Cert.KernelIdeal.Work.run m g) fun r hr c => ⟨?_, Frames.args_kept m c r.2 (hr.1 c).1⟩
    haveI := Frames.preFacts
    obtain ⟨h1, h3, hd, hl, hi⟩ := reals _ _ _ _ _ _ _ _ _ _ _ _ (hpre c)
    obtain ⟨a0, a1, a2, a3, a4, a5, a6, a7, a8, a9, a10, a11⟩ := hagree c
    funext i
    rw [show i = ix3 (i 0) (i 1) (i 2) from eq_ix3 i]
    refine (Cert.KernelIdeal.Work.final_result m c _ rfl r.2 (hr.1 c) (i 0) (i 1) (i 2)).trans ?_
    refine (result_at _ _ _ _ _ _ _ _ _ _ _ _ h1 h3 hd hl hi (i 0) (i 1) (i 2)).trans ?_
    refine congrFun ?_ _
    rw [Cert.ReferenceIdeal.Work.result_eq]
    rw [← a0, ← a1, ← a2, ← a3, ← a4, ← a5, ← a6, ← a7, ← a8, ← a9, ← a10, ← a11]
  · exact Cert.ReferenceIdeal.Value.run m' g'

end Cert.Algebraic
-- ==== Proof.lean ====
module

public import proofs.«01_k».proof.Proof.Frames
public import proofs.«01_k».proof.Proof.Algebraic

@[expose] public section

noncomputable section

namespace Cert.Proof

/-- Every claim: the three frames, that the idealized kernel keeps the kernel's own operations, and the equal results. -/
theorem claim : Cert.Claim :=
  ⟨Cert.Kernel.Gen.facts, Cert.KernelIdeal.Gen.facts, Cert.ReferenceIdeal.Gen.facts, Frames.preFacts, Frames.kernel,
    Frames.kernelIdeal, Frames.kernelIdeal_pre, Frames.referenceIdeal, Frames.referenceIdeal_pre, trivial, Algebraic.algebraic⟩

end Cert.Proof

end
